-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![2, 1024, 1024]⟩ (Layout.meshBlock [2, 4, 4] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v17) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1024x1024 : Shape := ⟨3, ![1, 1024, 1024]⟩
abbrev S1024x1024 : Shape := ⟨2, ![1024, 1024]⟩
abbrev S1024 : Shape := ⟨1, ![1024]⟩
abbrev S512x1024 : Shape := ⟨2, ![512, 1024]⟩
abbrev S8 : Shape := ⟨1, ![8]⟩
abbrev S_ : Shape := ⟨0, ![]⟩
abbrev S1x64x1024 : Shape := ⟨3, ![1, 64, 1024]⟩
abbrev S64x1024 : Shape := ⟨2, ![64, 1024]⟩
abbrev S1 : Shape := ⟨1, ![1]⟩
abbrev S64 : Shape := ⟨1, ![64]⟩
abbrev S64x1 : Shape := ⟨2, ![64, 1]⟩
abbrev S1x1024 : Shape := ⟨2, ![1, 1024]⟩

abbrev nBuf : Space → Nat
  | .hbm => 4
  | .vmem => 6
  | .smem => 0
  | _ => 0

abbrev bufTy : (tb : Table) → Fin (tcTables nBuf tb) → BufTy
  | .hbm, ⟨0, _⟩ => ⟨S1x1024x1024, .bf16⟩
  | .hbm, ⟨1, _⟩ => ⟨S1024x1024, .bf16⟩
  | .hbm, ⟨2, _⟩ => ⟨S1024, .bf16⟩
  | .hbm, ⟨3, _⟩ => ⟨S1024x1024, .f32⟩
  | .local _ .vmem, ⟨0, _⟩ => ⟨S1x1024x1024, .bf16⟩
  | .local _ .vmem, ⟨1, _⟩ => ⟨S1024x1024, .bf16⟩
  | .local _ .vmem, ⟨2, _⟩ => ⟨S1024, .bf16⟩
  | .local _ .vmem, ⟨3, _⟩ => ⟨S1024x1024, .f32⟩
  | .local _ .vmem, ⟨4, _⟩ => ⟨S512x1024, .bf16⟩
  | .local _ .vmem, ⟨5, _⟩ => ⟨S1024x1024, .bf16⟩
  | _, _ => ⟨S1x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_14 : BitVec 32 := 0#32
  let c1_i32_9 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.subi c1_i32_9 v2
  let c16_i32_13 : BitVec 32 := 16#32
  let v27 : BitVec 32 := Scalar.muli v22 c16_i32_13
  let v28 : BitVec 32 := Scalar.addi c0_i32_14 v27
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_15 : BitVec 32 := 4#32
  let v29 : BitVec 32 := Scalar.muli v5 c4_i32_15
  let v30 : BitVec 32 := Scalar.addi v28 v29
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_16 : BitVec 32 := 1#32
  let v31 : BitVec 32 := Scalar.muli v8 c1_i32_16
  let v32 : BitVec 32 := Scalar.addi v30 v31
  v32.toNat
def k0_dev2 (d0 : Dev nD) : Nat :=
  let c0_i32_19 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_18 : BitVec 32 := 16#32
  let v33 : BitVec 32 := Scalar.muli v2 c16_i32_18
  let v34 : BitVec 32 := Scalar.addi c0_i32_19 v33
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_10 : BitVec 32 := 1#32
  let v23 : BitVec 32 := Scalar.addi v5 c1_i32_10
  let c2_i32_11 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v24 : BitVec 32 := Scalar.muli c2_i32_11 v18
  let v25 : BitVec 32 := Scalar.subi v23 v24
  let c4_i32_20 : BitVec 32 := 4#32
  let v35 : BitVec 32 := Scalar.muli v25 c4_i32_20
  let v36 : BitVec 32 := Scalar.addi v34 v35
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_21 : BitVec 32 := 1#32
  let v37 : BitVec 32 := Scalar.muli v8 c1_i32_21
  let v38 : BitVec 32 := Scalar.addi v36 v37
  v38.toNat
def k0_off1 (d0 : Dev nD) (c0_i32_23 : BitVec 32) : Fin 3 → Nat :=
  let c0 : Index := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c512_i32 : BitVec 32 := 512#32
  let v19 : BitVec 32 := Scalar.muli v18 c512_i32
  let v39 : BitVec 32 := Scalar.addi v19 c0_i32_23
  let v40 : Index := Scalar.indexCast v39
  let c0_24 : Index := 0#32
  ![0, v40.toNat, 0]
def k0_off2 (d0 : Dev nD) (c0_i32_27 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c512_i32 : BitVec 32 := 512#32
  let v19 : BitVec 32 := Scalar.muli v18 c512_i32
  let v46 : BitVec 32 := Scalar.addi v19 c0_i32_27
  let c0_i32_34 : BitVec 32 := 0#32
  ![v46.toNat, 0]
def k0_dev3 (d0 : Dev nD) : Nat :=
  let c0_i32_31 : BitVec 32 := 0#32
  let c1_i32_9 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.subi c1_i32_9 v2
  let c16_i32_30 : BitVec 32 := 16#32
  let v47 : BitVec 32 := Scalar.muli v22 c16_i32_30
  let v48 : BitVec 32 := Scalar.addi c0_i32_31 v47
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_32 : BitVec 32 := 4#32
  let v49 : BitVec 32 := Scalar.muli v5 c4_i32_32
  let v50 : BitVec 32 := Scalar.addi v48 v49
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_33 : BitVec 32 := 1#32
  let v51 : BitVec 32 := Scalar.muli v8 c1_i32_33
  let v52 : BitVec 32 := Scalar.addi v50 v51
  v52.toNat
def k0_dev4 (d0 : Dev nD) : Nat :=
  let c0_i32_44 : BitVec 32 := 0#32
  let c1_i32_9 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.subi c1_i32_9 v2
  let c16_i32_43 : BitVec 32 := 16#32
  let v67 : BitVec 32 := Scalar.muli v22 c16_i32_43
  let v68 : BitVec 32 := Scalar.addi c0_i32_44 v67
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_45 : BitVec 32 := 4#32
  let v69 : BitVec 32 := Scalar.muli v5 c4_i32_45
  let v70 : BitVec 32 := Scalar.addi v68 v69
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_46 : BitVec 32 := 1#32
  let v71 : BitVec 32 := Scalar.muli v8 c1_i32_46
  let v72 : BitVec 32 := Scalar.addi v70 v71
  v72.toNat
def k0_dev5 (d0 : Dev nD) : Nat :=
  let c0_i32_57 : BitVec 32 := 0#32
  let c1_i32_9 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.subi c1_i32_9 v2
  let c16_i32_56 : BitVec 32 := 16#32
  let v87 : BitVec 32 := Scalar.muli v22 c16_i32_56
  let v88 : BitVec 32 := Scalar.addi c0_i32_57 v87
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_58 : BitVec 32 := 4#32
  let v89 : BitVec 32 := Scalar.muli v5 c4_i32_58
  let v90 : BitVec 32 := Scalar.addi v88 v89
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_59 : BitVec 32 := 1#32
  let v91 : BitVec 32 := Scalar.muli v8 c1_i32_59
  let v92 : BitVec 32 := Scalar.addi v90 v91
  v92.toNat
def k0_dev6 (d0 : Dev nD) : Nat :=
  let c0_i32_69 : BitVec 32 := 0#32
  let c1_i32_9 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.subi c1_i32_9 v2
  let c16_i32_68 : BitVec 32 := 16#32
  let v107 : BitVec 32 := Scalar.muli v22 c16_i32_68
  let v108 : BitVec 32 := Scalar.addi c0_i32_69 v107
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_70 : BitVec 32 := 4#32
  let v109 : BitVec 32 := Scalar.muli v5 c4_i32_70
  let v110 : BitVec 32 := Scalar.addi v108 v109
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_71 : BitVec 32 := 1#32
  let v111 : BitVec 32 := Scalar.muli v8 c1_i32_71
  let v112 : BitVec 32 := Scalar.addi v110 v111
  v112.toNat
def k0_dev7 (d0 : Dev nD) : Nat :=
  let c0_i32_82 : BitVec 32 := 0#32
  let c1_i32_9 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.subi c1_i32_9 v2
  let c16_i32_81 : BitVec 32 := 16#32
  let v127 : BitVec 32 := Scalar.muli v22 c16_i32_81
  let v128 : BitVec 32 := Scalar.addi c0_i32_82 v127
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_83 : BitVec 32 := 4#32
  let v129 : BitVec 32 := Scalar.muli v5 c4_i32_83
  let v130 : BitVec 32 := Scalar.addi v128 v129
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_84 : BitVec 32 := 1#32
  let v131 : BitVec 32 := Scalar.muli v8 c1_i32_84
  let v132 : BitVec 32 := Scalar.addi v130 v131
  v132.toNat
def k0_dev8 (d0 : Dev nD) : Nat :=
  let c0_i32_94 : BitVec 32 := 0#32
  let c1_i32_9 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.subi c1_i32_9 v2
  let c16_i32_93 : BitVec 32 := 16#32
  let v147 : BitVec 32 := Scalar.muli v22 c16_i32_93
  let v148 : BitVec 32 := Scalar.addi c0_i32_94 v147
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_95 : BitVec 32 := 4#32
  let v149 : BitVec 32 := Scalar.muli v5 c4_i32_95
  let v150 : BitVec 32 := Scalar.addi v148 v149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_96 : BitVec 32 := 1#32
  let v151 : BitVec 32 := Scalar.muli v8 c1_i32_96
  let v152 : BitVec 32 := Scalar.addi v150 v151
  v152.toNat
def k0_dev9 (d0 : Dev nD) : Nat :=
  let c0_i32_106 : BitVec 32 := 0#32
  let c1_i32_9 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.subi c1_i32_9 v2
  let c16_i32_105 : BitVec 32 := 16#32
  let v167 : BitVec 32 := Scalar.muli v22 c16_i32_105
  let v168 : BitVec 32 := Scalar.addi c0_i32_106 v167
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_107 : BitVec 32 := 4#32
  let v169 : BitVec 32 := Scalar.muli v5 c4_i32_107
  let v170 : BitVec 32 := Scalar.addi v168 v169
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_108 : BitVec 32 := 1#32
  let v171 : BitVec 32 := Scalar.muli v8 c1_i32_108
  let v172 : BitVec 32 := Scalar.addi v170 v171
  v172.toNat
def k0_dev10 (d0 : Dev nD) : Nat :=
  let c0_i32_118 : BitVec 32 := 0#32
  let c1_i32_9 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v22 : BitVec 32 := Scalar.subi c1_i32_9 v2
  let c16_i32_117 : BitVec 32 := 16#32
  let v187 : BitVec 32 := Scalar.muli v22 c16_i32_117
  let v188 : BitVec 32 := Scalar.addi c0_i32_118 v187
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_119 : BitVec 32 := 4#32
  let v189 : BitVec 32 := Scalar.muli v5 c4_i32_119
  let v190 : BitVec 32 := Scalar.addi v188 v189
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_120 : BitVec 32 := 1#32
  let v191 : BitVec 32 := Scalar.muli v8 c1_i32_120
  let v192 : BitVec 32 := Scalar.addi v190 v191
  v192.toNat
def k0_dev11 (d0 : Dev nD) : Nat :=
  let c0_i32_138 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_137 : BitVec 32 := 16#32
  let v211 : BitVec 32 := Scalar.muli v2 c16_i32_137
  let v212 : BitVec 32 := Scalar.addi c0_i32_138 v211
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_10 : BitVec 32 := 1#32
  let v23 : BitVec 32 := Scalar.addi v5 c1_i32_10
  let c2_i32_11 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v24 : BitVec 32 := Scalar.muli c2_i32_11 v18
  let v25 : BitVec 32 := Scalar.subi v23 v24
  let c4_i32_139 : BitVec 32 := 4#32
  let v213 : BitVec 32 := Scalar.muli v25 c4_i32_139
  let v214 : BitVec 32 := Scalar.addi v212 v213
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_140 : BitVec 32 := 1#32
  let v215 : BitVec 32 := Scalar.muli v8 c1_i32_140
  let v216 : BitVec 32 := Scalar.addi v214 v215
  v216.toNat
def k0_off3 (d0 : Dev nD) (c0_i32_143 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c512_i32 : BitVec 32 := 512#32
  let v19 : BitVec 32 := Scalar.muli v18 c512_i32
  let v223 : BitVec 32 := Scalar.addi v19 c0_i32_143
  let v227 : Index := Scalar.indexCast v223
  let c0_146 : Index := 0#32
  ![v227.toNat, 0]
def k0_dev12 (d0 : Dev nD) : Nat :=
  let c0_i32_166 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_165 : BitVec 32 := 16#32
  let v267 : BitVec 32 := Scalar.muli v2 c16_i32_165
  let v268 : BitVec 32 := Scalar.addi c0_i32_166 v267
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_10 : BitVec 32 := 1#32
  let v23 : BitVec 32 := Scalar.addi v5 c1_i32_10
  let c2_i32_11 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v24 : BitVec 32 := Scalar.muli c2_i32_11 v18
  let v25 : BitVec 32 := Scalar.subi v23 v24
  let c4_i32_167 : BitVec 32 := 4#32
  let v269 : BitVec 32 := Scalar.muli v25 c4_i32_167
  let v270 : BitVec 32 := Scalar.addi v268 v269
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_168 : BitVec 32 := 1#32
  let v271 : BitVec 32 := Scalar.muli v8 c1_i32_168
  let v272 : BitVec 32 := Scalar.addi v270 v271
  v272.toNat
def k0_dev13 (d0 : Dev nD) : Nat :=
  let c0_i32_195 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_194 : BitVec 32 := 16#32
  let v323 : BitVec 32 := Scalar.muli v2 c16_i32_194
  let v324 : BitVec 32 := Scalar.addi c0_i32_195 v323
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_10 : BitVec 32 := 1#32
  let v23 : BitVec 32 := Scalar.addi v5 c1_i32_10
  let c2_i32_11 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v24 : BitVec 32 := Scalar.muli c2_i32_11 v18
  let v25 : BitVec 32 := Scalar.subi v23 v24
  let c4_i32_196 : BitVec 32 := 4#32
  let v325 : BitVec 32 := Scalar.muli v25 c4_i32_196
  let v326 : BitVec 32 := Scalar.addi v324 v325
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_197 : BitVec 32 := 1#32
  let v327 : BitVec 32 := Scalar.muli v8 c1_i32_197
  let v328 : BitVec 32 := Scalar.addi v326 v327
  v328.toNat
def k0_dev14 (d0 : Dev nD) : Nat :=
  let c0_i32_224 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_223 : BitVec 32 := 16#32
  let v379 : BitVec 32 := Scalar.muli v2 c16_i32_223
  let v380 : BitVec 32 := Scalar.addi c0_i32_224 v379
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_10 : BitVec 32 := 1#32
  let v23 : BitVec 32 := Scalar.addi v5 c1_i32_10
  let c2_i32_11 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v24 : BitVec 32 := Scalar.muli c2_i32_11 v18
  let v25 : BitVec 32 := Scalar.subi v23 v24
  let c4_i32_225 : BitVec 32 := 4#32
  let v381 : BitVec 32 := Scalar.muli v25 c4_i32_225
  let v382 : BitVec 32 := Scalar.addi v380 v381
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_226 : BitVec 32 := 1#32
  let v383 : BitVec 32 := Scalar.muli v8 c1_i32_226
  let v384 : BitVec 32 := Scalar.addi v382 v383
  v384.toNat
def k0_dev15 (d0 : Dev nD) : Nat :=
  let c0_i32_253 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_252 : BitVec 32 := 16#32
  let v435 : BitVec 32 := Scalar.muli v2 c16_i32_252
  let v436 : BitVec 32 := Scalar.addi c0_i32_253 v435
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_10 : BitVec 32 := 1#32
  let v23 : BitVec 32 := Scalar.addi v5 c1_i32_10
  let c2_i32_11 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v24 : BitVec 32 := Scalar.muli c2_i32_11 v18
  let v25 : BitVec 32 := Scalar.subi v23 v24
  let c4_i32_254 : BitVec 32 := 4#32
  let v437 : BitVec 32 := Scalar.muli v25 c4_i32_254
  let v438 : BitVec 32 := Scalar.addi v436 v437
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_255 : BitVec 32 := 1#32
  let v439 : BitVec 32 := Scalar.muli v8 c1_i32_255
  let v440 : BitVec 32 := Scalar.addi v438 v439
  v440.toNat
def k0_dev16 (d0 : Dev nD) : Nat :=
  let c0_i32_282 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_281 : BitVec 32 := 16#32
  let v491 : BitVec 32 := Scalar.muli v2 c16_i32_281
  let v492 : BitVec 32 := Scalar.addi c0_i32_282 v491
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_10 : BitVec 32 := 1#32
  let v23 : BitVec 32 := Scalar.addi v5 c1_i32_10
  let c2_i32_11 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v24 : BitVec 32 := Scalar.muli c2_i32_11 v18
  let v25 : BitVec 32 := Scalar.subi v23 v24
  let c4_i32_283 : BitVec 32 := 4#32
  let v493 : BitVec 32 := Scalar.muli v25 c4_i32_283
  let v494 : BitVec 32 := Scalar.addi v492 v493
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_284 : BitVec 32 := 1#32
  let v495 : BitVec 32 := Scalar.muli v8 c1_i32_284
  let v496 : BitVec 32 := Scalar.addi v494 v495
  v496.toNat
def k0_dev17 (d0 : Dev nD) : Nat :=
  let c0_i32_311 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_310 : BitVec 32 := 16#32
  let v547 : BitVec 32 := Scalar.muli v2 c16_i32_310
  let v548 : BitVec 32 := Scalar.addi c0_i32_311 v547
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_10 : BitVec 32 := 1#32
  let v23 : BitVec 32 := Scalar.addi v5 c1_i32_10
  let c2_i32_11 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v24 : BitVec 32 := Scalar.muli c2_i32_11 v18
  let v25 : BitVec 32 := Scalar.subi v23 v24
  let c4_i32_312 : BitVec 32 := 4#32
  let v549 : BitVec 32 := Scalar.muli v25 c4_i32_312
  let v550 : BitVec 32 := Scalar.addi v548 v549
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_313 : BitVec 32 := 1#32
  let v551 : BitVec 32 := Scalar.muli v8 c1_i32_313
  let v552 : BitVec 32 := Scalar.addi v550 v551
  v552.toNat
def k0_dev18 (d0 : Dev nD) : Nat :=
  let c0_i32_340 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_339 : BitVec 32 := 16#32
  let v603 : BitVec 32 := Scalar.muli v2 c16_i32_339
  let v604 : BitVec 32 := Scalar.addi c0_i32_340 v603
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_10 : BitVec 32 := 1#32
  let v23 : BitVec 32 := Scalar.addi v5 c1_i32_10
  let c2_i32_11 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v24 : BitVec 32 := Scalar.muli c2_i32_11 v18
  let v25 : BitVec 32 := Scalar.subi v23 v24
  let c4_i32_341 : BitVec 32 := 4#32
  let v605 : BitVec 32 := Scalar.muli v25 c4_i32_341
  let v606 : BitVec 32 := Scalar.addi v604 v605
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_342 : BitVec 32 := 1#32
  let v607 : BitVec 32 := Scalar.muli v8 c1_i32_342
  let v608 : BitVec 32 := Scalar.addi v606 v607
  v608.toNat
def k0_off4 (d0 : Dev nD) (c0_i32_363 : BitVec 32) : Fin 3 → Nat :=
  let c0_364 : Index := 0#32
  let c1_i32_7 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.subi c1_i32_7 v18
  let c512_i32_8 : BitVec 32 := 512#32
  let v21 : BitVec 32 := Scalar.muli v20 c512_i32_8
  let v657 : BitVec 32 := Scalar.addi v21 c0_i32_363
  let v658 : Index := Scalar.indexCast v657
  let c0_365 : Index := 0#32
  ![0, v658.toNat, 0]
def k0_off5 (d0 : Dev nD) (c0_i32_363 : BitVec 32) : Fin 2 → Nat :=
  let c1_i32_7 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v20 : BitVec 32 := Scalar.subi c1_i32_7 v18
  let c512_i32_8 : BitVec 32 := 512#32
  let v21 : BitVec 32 := Scalar.muli v20 c512_i32_8
  let v657 : BitVec 32 := Scalar.addi v21 c0_i32_363
  let v661 : Index := Scalar.indexCast v657
  let c0_366 : Index := 0#32
  ![v661.toNat, 0]
abbrev stage0_0 : Fin 1 → Memref sig .tc .vmem S1x1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2x1024x1024 : Shape := ⟨3, ![2, 1024, 1024]⟩
abbrev S1024x1024 : Shape := ⟨2, ![1024, 1024]⟩
abbrev S1024 : Shape := ⟨1, ![1024]⟩
abbrev S_ : Shape := ⟨0, ![]⟩
abbrev S1024x1 : Shape := ⟨2, ![1024, 1]⟩
abbrev S1x1024 : Shape := ⟨2, ![1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S2x1024x1024, .bf16⟩
  | .hbm, ⟨1, _⟩ => ⟨S1024x1024, .bf16⟩
  | .hbm, ⟨2, _⟩ => ⟨S1024, .bf16⟩
  | .hbm, ⟨3, _⟩ => ⟨S2x1024x1024, .f32⟩
  | .hbm, ⟨4, _⟩ => ⟨S1024x1024, .f32⟩
  | .hbm, ⟨5, _⟩ => ⟨S1024, .f32⟩
  | .hbm, ⟨6, _⟩ => ⟨S_, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S_, .f32⟩
  | .hbm, ⟨11, _⟩ => ⟨S1024, .f32⟩
  | .hbm, ⟨12, _⟩ => ⟨S1024x1, .f32⟩
  | .hbm, ⟨13, _⟩ => ⟨S_, .f32⟩
  | .hbm, ⟨14, _⟩ => ⟨S1024x1, .f32⟩
  | .hbm, ⟨15, _⟩ => ⟨S1024x1, .f32⟩
  | .hbm, ⟨16, _⟩ => ⟨S_, .f32⟩
  | .hbm, ⟨17, _⟩ => ⟨S1024x1, .f32⟩
  | .hbm, ⟨18, _⟩ => ⟨S1024x1, .f32⟩
  | .hbm, ⟨19, _⟩ => ⟨S1024x1, .f32⟩
  | .hbm, ⟨20, _⟩ => ⟨S1024x1024, .f32⟩
  | .hbm, ⟨21, _⟩ => ⟨S1024x1024, .f32⟩
  | .hbm, ⟨22, _⟩ => ⟨S1x1024, .f32⟩
  | .hbm, ⟨23, _⟩ => ⟨S1024x1024, .f32⟩
  | .hbm, ⟨24, _⟩ => ⟨S1024x1024, .f32⟩
  | _, _ => ⟨S2x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Proof.KernelIdeal.Body.lean ====
/-
The kernel's body as four loops.

The printed body is a straight line: eight pieces of 64 rows are sent along x, eight pieces are received, passed on
along y and computed with, eight pieces are received from y and computed with, and last the sixteen departures are
waited for. Here each of the four phases is one step at a symbolic piece `k`, repeated eight times; `body_eq` says
that the printed body is that program.
-/
module

public import proofs.«01_k».proof.Proof.Gen.KernelIdeal
public import proofs.«01_k».proof.Proof.Gen.KernelIdeal.Skeleton
public import proofs.«01_k».proof.Proof.Gen.KernelIdeal.Points
public import Idealize.ShloMosaic.Lib.Tactic

@[expose] public section

noncomputable section

namespace Cert.KernelIdeal.Exchange

open Cert.KernelIdeal Cert.KernelIdeal.Gen
open Idealize.ShloMosaic Idealize.SL.Sem

variable {F : FTy → Type} [FloatOps F]

/-- The effects a TensorCore of this program performs. -/
abbrev Eff (F : FTy → Type) : Type → Type := TpuEff nD τ sig (Elt F) Λ₀ .tc

/-! ## The buffers -/

abbrev xM : Memref sig .tc .vmem S1x1024x1024 .bf16 := Memref.whole cc0_stg0_0
abbrev rM : Memref sig .tc .vmem S1024x1024 .bf16 := Memref.whole cc0_stg1_0
abbrev gM : Memref sig .tc .vmem S1024 .bf16 := Memref.whole cc0_stg2_0
abbrev oM : Memref sig .tc .vmem S1024x1024 .f32 := Memref.whole cc0_stg3_0
abbrev sM : Memref sig .tc .vmem S512x1024 .bf16 := Memref.whole cc0_scratch0
abbrev nM : Memref sig .tc .vmem S1024x1024 .bf16 := Memref.whole cc0_scratch1

/-! ## The pieces -/

theorem piece8_inb : ∀ k : Fin 8, ∀ a, (![k.val] : Fin 1 → Nat) a + S1.size a ≤ S8.size a := by decide
theorem pieceS_inb : ∀ k : Fin 8, ∀ a, (![64 * k.val, 0] : Fin 2 → Nat) a + S64x1024.size a ≤ S512x1024.size a := by decide

/-- Piece `k` of the send buffer: 64 rows of its 512. -/
abbrev sRect (k : Fin 8) : Rect S512x1024 := Rect.unit (s := S512x1024) ![64 * k.val, 0] S64x1024.size (pieceS_inb k)

theorem sRect_words : ∀ k : Fin 8, (sRect k).WholeWords (EltTy.packing .bf16)
  | 0 => wordsbf16_S512x1024_S64x1024_0_0
  | 1 => wordsbf16_S512x1024_S64x1024_64_0
  | 2 => wordsbf16_S512x1024_S64x1024_128_0
  | 3 => wordsbf16_S512x1024_S64x1024_192_0
  | 4 => wordsbf16_S512x1024_S64x1024_256_0
  | 5 => wordsbf16_S512x1024_S64x1024_320_0
  | 6 => wordsbf16_S512x1024_S64x1024_384_0
  | 7 => wordsbf16_S512x1024_S64x1024_448_0

theorem sRect_packed : ∀ k : Fin 8, (sRect k).PackedRows (EltTy.packing .bf16)
  | 0 => packedbf16_S512x1024_S64x1024_0_0
  | 1 => packedbf16_S512x1024_S64x1024_64_0
  | 2 => packedbf16_S512x1024_S64x1024_128_0
  | 3 => packedbf16_S512x1024_S64x1024_192_0
  | 4 => packedbf16_S512x1024_S64x1024_256_0
  | 5 => packedbf16_S512x1024_S64x1024_320_0
  | 6 => packedbf16_S512x1024_S64x1024_384_0
  | 7 => packedbf16_S512x1024_S64x1024_448_0

abbrev sPiece (k : Fin 8) : Memref sig .tc .vmem S64x1024 .bf16 := sM.slice (sRect k) (fun _ => rfl)
/-- 64 rows of the neighbour buffer from the offset `o`. -/
abbrev nPiece (o : Fin 2 → Nat) (io : ∀ a, o a + S64x1024.size a ≤ S1024x1024.size a) : Memref sig .tc .vmem S64x1024 .bf16 :=
  nM.slice (Rect.unit (s := S1024x1024) o S64x1024.size io) (fun _ => rfl)

/-- The semaphore of piece `k` in one of the four families. -/
abbrev famSem (A : DmaSems sig S8) (k : Fin 8) : DmaSem sig :=
  ((A.slice (Rect.unit (s := S8) ![k.val] S1.size (piece8_inb k))).squeeze S_ squeezes_S1_S_).sem

/-- The word `64 k` by which the printed offsets name piece `k`. -/
abbrev wk (k : Fin 8) : BitVec 32 := BitVec.ofNat 32 (64 * k.val)

/-- The device the transfer of piece `k` along x goes to, as printed. -/
def devX (d : Dev nD) : Fin 8 → Dev nD
  | 0 => ⟨k0_dev3 d, k0_dev3_lt d⟩
  | 1 => ⟨k0_dev4 d, k0_dev4_lt d⟩
  | 2 => ⟨k0_dev5 d, k0_dev5_lt d⟩
  | 3 => ⟨k0_dev6 d, k0_dev6_lt d⟩
  | 4 => ⟨k0_dev7 d, k0_dev7_lt d⟩
  | 5 => ⟨k0_dev8 d, k0_dev8_lt d⟩
  | 6 => ⟨k0_dev9 d, k0_dev9_lt d⟩
  | 7 => ⟨k0_dev10 d, k0_dev10_lt d⟩

/-- The device the transfer of piece `k` along y goes to, as printed. -/
def devY (d : Dev nD) : Fin 8 → Dev nD
  | 0 => ⟨k0_dev11 d, k0_dev11_lt d⟩
  | 1 => ⟨k0_dev12 d, k0_dev12_lt d⟩
  | 2 => ⟨k0_dev13 d, k0_dev13_lt d⟩
  | 3 => ⟨k0_dev14 d, k0_dev14_lt d⟩
  | 4 => ⟨k0_dev15 d, k0_dev15_lt d⟩
  | 5 => ⟨k0_dev16 d, k0_dev16_lt d⟩
  | 6 => ⟨k0_dev17 d, k0_dev17_lt d⟩
  | 7 => ⟨k0_dev18 d, k0_dev18_lt d⟩

/-! ## The four steps -/

/-- Copy 64 rows of `partial` to piece `k` of the send buffer and send that piece to `dst`. -/
def xStep (dst : Dev nD) (o1 : Fin 3 → Nat) (i1 : ∀ a, o1 a + S1x64x1024.size a ≤ S1x1024x1024.size a)
    (o2 : Fin 2 → Nat) (i2 : ∀ a, o2 a + S64x1024.size a ≤ S1024x1024.size a)
    (w2 : (Rect.unit (s := S1024x1024) o2 S64x1024.size i2).WholeWords (EltTy.packing .bf16)) (k : Fin 8) : Prog (Eff F) PUnit := do
  let v : Vec F S1x64x1024 .bf16 ← Prog.lift (.load xM (Rect.unit (s := S1x1024x1024) o1 S1x64x1024.size i1).toLoadRect (View.loadsAt_vmem h_S1x64x1024))
  let _ : Vec F S64x1024 .bf16 ← Prog.lift (.load sM (sRect k).toLoadRect (View.loadsAt_vmem h_S64x1024))
  Prog.lift (.store sM (sRect k) (k0_pay1 v) Finset.univ (View.stores_vmem h_S64x1024 ((Memref.isWhole_whole _).storeExact_slice rfl _ (sRect_packed k)) (fun _ => rfl)) (.inl rfl))
  Prog.lift (.enqueueDma (sPiece k) (.remote (Dev.tc dst) (nPiece o2 i2) (.dma (famSem cc0_scratch2 k))) (.dma (famSem cc0_scratch3 k))
    ((Memref.isWhole_whole _).wordExact_slice rfl _ (sRect_words k)) ((Memref.isWhole_whole _).wordExact_slice rfl _ w2) ⟨⟨rfl, Or.inl rfl⟩, trivial⟩)

/-- Compute 64 rows of the result and store them: rows from `o1` of `partial`, from `o3` of the other operands. -/
def rowsStep (o1 : Fin 3 → Nat) (i1 : ∀ a, o1 a + S1x64x1024.size a ≤ S1x1024x1024.size a)
    (o3 : Fin 2 → Nat) (i3 : ∀ a, o3 a + S64x1024.size a ≤ S1024x1024.size a) : Prog (Eff F) PUnit := do
  let p : Vec F S1x64x1024 .bf16 ← Prog.lift (.load xM (Rect.unit (s := S1x1024x1024) o1 S1x64x1024.size i1).toLoadRect (View.loadsAt_vmem h_S1x64x1024))
  let n : Vec F S64x1024 .bf16 ← Prog.lift (.load nM (Rect.unit (s := S1024x1024) o3 S64x1024.size i3).toLoadRect (View.loadsAt_vmem h_S64x1024))
  let r : Vec F S64x1024 .bf16 ← Prog.lift (.load rM (Rect.unit (s := S1024x1024) o3 S64x1024.size i3).toLoadRect (View.loadsAt_vmem h_S64x1024))
  let g : Vec F S1024 .bf16 ← Prog.lift (.load gM (Rect.unit (s := S1024) ![0] S1024.size inb_S1024_S1024_0).toLoadRect (View.loadsAt_vmem h_S1024))
  let _ : Vec F S64x1024 .f32 ← Prog.lift (.load oM (Rect.unit (s := S1024x1024) o3 S64x1024.size i3).toLoadRect (View.loadsAt_vmem h_S64x1024))
  Prog.lift (.store oM (Rect.unit (s := S1024x1024) o3 S64x1024.size i3) (k0_pay10 p n r g) Finset.univ (View.stores_vmem_bits_univ h_S64x1024 rfl) (.inl rfl))

/-- Wait for piece `k` from x and pass it on to `dst`. -/
def yStep (dst : Dev nD) (o2 : Fin 2 → Nat) (i2 : ∀ a, o2 a + S64x1024.size a ≤ S1024x1024.size a)
    (w2 : (Rect.unit (s := S1024x1024) o2 S64x1024.size i2).WholeWords (EltTy.packing .bf16)) (k : Fin 8) : Prog (Eff F) PUnit := do
  Prog.lift (.waitDma2 (famSem cc0_scratch3 k) (sPiece k) (nPiece o2 i2)
    ((Memref.isWhole_whole _).wordExact_slice rfl _ (sRect_words k)) ((Memref.isWhole_whole _).wordExact_slice rfl _ w2))
  Prog.lift (.enqueueDma (nPiece o2 i2) (.remote (Dev.tc dst) (nPiece o2 i2) (.dma (famSem cc0_scratch4 k))) (.dma (famSem cc0_scratch5 k))
    ((Memref.isWhole_whole _).wordExact_slice rfl _ w2) ((Memref.isWhole_whole _).wordExact_slice rfl _ w2) ⟨⟨rfl, Or.inl rfl⟩, trivial⟩)

/-- Wait for piece `k` from y. -/
def zStep (o2 : Fin 2 → Nat) (i2 : ∀ a, o2 a + S64x1024.size a ≤ S1024x1024.size a)
    (w2 : (Rect.unit (s := S1024x1024) o2 S64x1024.size i2).WholeWords (EltTy.packing .bf16)) (k : Fin 8) : Prog (Eff F) PUnit :=
  Prog.lift (.waitDma2 (famSem cc0_scratch5 k) (nPiece o2 i2) (nPiece o2 i2)
    ((Memref.isWhole_whole _).wordExact_slice rfl _ w2) ((Memref.isWhole_whole _).wordExact_slice rfl _ w2))

/-- Wait for the two departures of piece `k`. -/
def wStep (o2 : Fin 2 → Nat) (i2 : ∀ a, o2 a + S64x1024.size a ≤ S1024x1024.size a)
    (w2 : (Rect.unit (s := S1024x1024) o2 S64x1024.size i2).WholeWords (EltTy.packing .bf16)) (k : Fin 8) : Prog (Eff F) PUnit := do
  Prog.lift (.waitDma2 (famSem cc0_scratch2 k) (nPiece o2 i2) (sPiece k)
    ((Memref.isWhole_whole _).wordExact_slice rfl _ w2) ((Memref.isWhole_whole _).wordExact_slice rfl _ (sRect_words k)))
  Prog.lift (.waitDma2 (famSem cc0_scratch4 k) (nPiece o2 i2) (nPiece o2 i2)
    ((Memref.isWhole_whole _).wordExact_slice rfl _ w2) ((Memref.isWhole_whole _).wordExact_slice rfl _ w2))

/-! ## The phases at device `d` -/

def phX (d : Dev nD) (k : Fin 8) : Prog (Eff F) PUnit :=
  xStep (devX d k) (k0_off1 d (wk k)) (k0_off1_inb d k) (k0_off2 d (wk k)) (k0_off2_inb d k) (k0_off2_wordsbf16 d k) k
def phY (d : Dev nD) (k : Fin 8) : Prog (Eff F) PUnit := do
  yStep (devY d k) (k0_off2 d (wk k)) (k0_off2_inb d k) (k0_off2_wordsbf16 d k) k
  rowsStep (k0_off1 d (wk k)) (k0_off1_inb d k) (k0_off3 d (wk k)) (k0_off3_inb d k)
def phZ (d : Dev nD) (k : Fin 8) : Prog (Eff F) PUnit := do
  zStep (k0_off2 d (wk k)) (k0_off2_inb d k) (k0_off2_wordsbf16 d k) k
  rowsStep (k0_off4 d (wk k)) (k0_off4_inb d k) (k0_off5 d (wk k)) (k0_off5_inb d k)
def phW (d : Dev nD) (k : Fin 8) : Prog (Eff F) PUnit :=
  wStep (k0_off2 d (wk k)) (k0_off2_inb d k) (k0_off2_wordsbf16 d k) k

/-- One step for each of the eight pieces, in order. -/
def eight (f : Fin 8 → Prog (Eff F) PUnit) : Prog (Eff F) PUnit := do
  f 0; f 1; f 2; f 3; f 4; f 5; f 6; f 7

abbrev barS : Sem sig := (SemArray.scalar (sig.barrier 0 rfl) : Sems sig S_).sem

/-- The whole body: both peers are signalled, both are waited for, and the four phases follow. -/
def body : Prog (Eff F) PUnit := do
  let d : Dev nD ← Prog.lift .deviceId
  semSignalWord (⟨k0_dev1 d, k0_dev1_lt d⟩ : Dev nD) barS 1#32
  semSignalWord (⟨k0_dev2 d, k0_dev2_lt d⟩ : Dev nD) barS 1#32
  semWaitWord barS 2#32
  eight (phX d)
  eight (phY d)
  eight (phZ d)
  eight (phW d)

set_option maxRecDepth 65536 in
/-- The printed body is the four loops: both unfold to one sequence of operations. -/
theorem body_eq : cc0_body (F := F) xM (Memref.isWhole_whole _) rM (Memref.isWhole_whole _) gM (Memref.isWhole_whole _) oM (Memref.isWhole_whole _)
    sM (Memref.isWhole_whole _) nM (Memref.isWhole_whole _) cc0_scratch2 cc0_scratch3 cc0_scratch4 cc0_scratch5 = body := by
  sl_kernel_rfl

end Cert.KernelIdeal.Exchange

end
-- ==== Proof.KernelIdeal.Protocol.lean ====
/-
The protocol of the exchange: peers, offsets, contents, and the schedule of the semaphores.

Device `c` stands at (x, y, z) = (c / 16, c / 4 % 4, c % 4). Its peer along x is `nbr c`, its peer along y (within the
pair {0,1} or {2,3}) is `ptr c`; both are involutions. `hf c` is the half of the rows that `c` fetches along x itself, the
other half comes from `ptr c`.

  semaphore of `c`     who raises it             what it hands to `c`
  barrier              `nbr c`, one unit         the half `hf c` of `nbr c`'s landing buffer, any contents
  barrier              `ptr c`, one unit         the half `hf c` of `ptr c`'s landing buffer, any contents
  departure x, piece k  the transfer of `c`      piece `k` of `c`'s send buffer
  arrival x, piece k   the transfer of `nbr c`   piece `k` of the half `hf c`, holding `nbr c`'s rows of `partial`
  departure y, piece k  the transfer of `c`      the lent half share of piece `k` of the half `hf c`
  arrival y, piece k   the transfer of `ptr c`   piece `k` of the other half, holding the rows `ptr c` passed on
-/
module

public import proofs.«01_k».proof.Proof.KernelIdeal.Body
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ghost state: the pipeline's and the exchange's -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents and generator registers, every counter at zero. -/
def s₀ : MemSt nD τ sig (Elt F) := ⟨m, fun _ => 0, ρ⟩

/-! ## The peers -/

set_option backward.proofsInPublic true in
/-- The peer along x. -/
def nbr (c : Dev nD) : Dev nD := ⟨(c.val + 16) % 32, Nat.mod_lt _ (by decide)⟩
theorem ptr_lt : ∀ c : Dev nD, c.val / 8 * 8 + (c.val + 4) % 8 < nD := by decide
/-- The peer along y. -/
def ptr (c : Dev nD) : Dev nD := ⟨c.val / 8 * 8 + (c.val + 4) % 8, ptr_lt c⟩
theorem hf_lt : ∀ c : Dev nD, c.val / 4 % 2 < 2 := fun c => Nat.mod_lt _ (by decide)
/-- The half of the rows that device `c` fetches along x. -/
def hf (c : Dev nD) : Fin 2 := ⟨c.val / 4 % 2, hf_lt c⟩
/-- The other half. -/
def oth (h : Fin 2) : Fin 2 := 1 - h

theorem nbr_nbr (c : Dev nD) : nbr (nbr c) = c := by revert c; decide +kernel
theorem ptr_ptr (c : Dev nD) : ptr (ptr c) = c := by revert c; decide +kernel
theorem hf_nbr (c : Dev nD) : hf (nbr c) = hf c := by revert c; decide +kernel
theorem hf_ptr (c : Dev nD) : hf (ptr c) = oth (hf c) := by revert c; decide +kernel
theorem oth_oth (h : Fin 2) : oth (oth h) = h := by revert h; decide
theorem oth_ne (h : Fin 2) : oth h ≠ h := by revert h; decide
theorem hf_ne_ptr (c : Dev nD) : hf c ≠ hf (ptr c) := by revert c; decide +kernel

/-- The permutations of the devices by the two peers. -/
def nbrE : Dev nD ≃ Dev nD := ⟨nbr, nbr, nbr_nbr, nbr_nbr⟩
def ptrE : Dev nD ≃ Dev nD := ⟨ptr, ptr, ptr_ptr, ptr_ptr⟩

theorem dev1_eq (c : Dev nD) : (⟨k0_dev1 c, k0_dev1_lt c⟩ : Dev nD) = nbr c := by revert c; decide +kernel
theorem dev2_eq (c : Dev nD) : (⟨k0_dev2 c, k0_dev2_lt c⟩ : Dev nD) = ptr c := by revert c; decide +kernel
theorem devX_eq (c : Dev nD) (k : Fin 8) : devX c k = nbr c := by revert c k; decide +kernel
theorem devY_eq (c : Dev nD) (k : Fin 8) : devY c k = ptr c := by revert c k; decide +kernel

/-! ## The pieces of the 1024 rows: half `h`, piece `k`, 64 rows -/

abbrev pOff (h : Fin 2) (k : Fin 8) : Fin 2 → Nat := ![512 * h.val + 64 * k.val, 0]
abbrev pOff3 (h : Fin 2) (k : Fin 8) : Fin 3 → Nat := ![0, 512 * h.val + 64 * k.val, 0]
theorem pOff_inb : ∀ (h : Fin 2) (k : Fin 8), ∀ a, pOff h k a + S64x1024.size a ≤ S1024x1024.size a := by decide
theorem pOff3_inb : ∀ (h : Fin 2) (k : Fin 8), ∀ a, pOff3 h k a + S1x64x1024.size a ≤ S1x1024x1024.size a := by decide

abbrev pRect (h : Fin 2) (k : Fin 8) : Rect S1024x1024 := Rect.unit (s := S1024x1024) (pOff h k) S64x1024.size (pOff_inb h k)
abbrev pRect3 (h : Fin 2) (k : Fin 8) : Rect S1x1024x1024 := Rect.unit (s := S1x1024x1024) (pOff3 h k) S1x64x1024.size (pOff3_inb h k)

theorem off1_eq (c : Dev nD) (k : Fin 8) : k0_off1 c (wk k) = pOff3 (hf c) k := by revert c k; decide +kernel
theorem off2_eq (c : Dev nD) (k : Fin 8) : k0_off2 c (wk k) = pOff (hf c) k := by revert c k; decide +kernel
theorem off3_eq (c : Dev nD) (k : Fin 8) : k0_off3 c (wk k) = pOff (hf c) k := by revert c k; decide +kernel
theorem off4_eq (c : Dev nD) (k : Fin 8) : k0_off4 c (wk k) = pOff3 (oth (hf c)) k := by revert c k; decide +kernel
theorem off5_eq (c : Dev nD) (k : Fin 8) : k0_off5 c (wk k) = pOff (oth (hf c)) k := by revert c k; decide +kernel

abbrev nP (h : Fin 2) (k : Fin 8) : Memref sig .tc .vmem S64x1024 .bf16 := nM.slice (pRect h k) (fun _ => rfl)
abbrev oP (h : Fin 2) (k : Fin 8) : Memref sig .tc .vmem S64x1024 .f32 := oM.slice (pRect h k) (fun _ => rfl)

/-! ## The cells -/

/-- The four families of DMA semaphores: departures x, arrivals x, departures y, arrivals y. -/
def fam : Fin 4 → DmaSems sig S8
  | 0 => cc0_scratch2
  | 1 => cc0_scratch3
  | 2 => cc0_scratch4
  | 3 => cc0_scratch5

abbrev dsem (q : Fin 4) (k : Fin 8) : DmaSem sig := famSem (fam q) k
abbrev barCell (c : Dev nD) : GSem nD τ sig := ((c : Thread nD τ), .reg barS)
abbrev cell (c : Dev nD) (q : Fin 4) (k : Fin 8) : GSem nD τ sig := ((c : Thread nD τ), .dma (dsem q k))

set_option backward.proofsInPublic true in
/-- Which family and piece a DMA semaphore is of (none: the pipeline's staging semaphores). -/
def ownIx (s : DmaSem sig) : Option (Fin 4 × Fin 8) :=
  if 4 ≤ s.val then some (⟨(s.val - 4) / 8 % 4, Nat.mod_lt _ (by decide)⟩, ⟨(s.val - 4) % 8, Nat.mod_lt _ (by decide)⟩) else none

theorem ownIx_dsem (q : Fin 4) (k : Fin 8) : ownIx (dsem q k) = some (q, k) := by revert q k; decide +kernel

/-- The units of one transfer of 64 rows. -/
abbrev N : ℕ := (nP 0 0).view.dmaCredit
theorem N_pos : 0 < N := View.dmaCredit_pos _ (by decide)

/-! ## Contents -/

/-- The operands as staged. -/
def xstg (c : Dev nD) : (cc0_stg0_0 : Ref sig .tc).ty.Contents (Elt F) :=
  (win0_0.blk (0 : Fin 1)).view.read (Elt F) ((s₀ m ρ).mem ((c : Thread nD τ).loc main_arg0))
def rstg (c : Dev nD) : (cc0_stg1_0 : Ref sig .tc).ty.Contents (Elt F) :=
  (win0_1.blk (0 : Fin 1)).view.read (Elt F) ((s₀ m ρ).mem ((c : Thread nD τ).loc main_arg1))
def gstg (c : Dev nD) : (cc0_stg2_0 : Ref sig .tc).ty.Contents (Elt F) :=
  (win0_2.blk (0 : Fin 1)).view.read (Elt F) ((s₀ m ρ).mem ((c : Thread nD τ).loc main_arg2))

/-- The rows of a piece of `partial`, `resid`, and `gamma`, as the body loads them. -/
def xRow (c : Dev nD) (h : Fin 2) (k : Fin 8) : Vec F S1x64x1024 .bf16 := xM.view.readAt (Elt F) (pRect3 h k).toLoadRect (xstg m ρ c)
def rRow (c : Dev nD) (h : Fin 2) (k : Fin 8) : Vec F S64x1024 .bf16 := rM.view.readAt (Elt F) (pRect h k).toLoadRect (rstg m ρ c)
def gVec (c : Dev nD) : Vec F S1024 .bf16 := gM.view.readAt (Elt F) (Rect.unit (s := S1024) ![0] S1024.size inb_S1024_S1024_0).toLoadRect (gstg m ρ c)

/-- The device whose rows of `partial` device `c` finds in the half `h` of its landing buffer. -/
def srcDev (c : Dev nD) (h : Fin 2) : Dev nD := if h = hf c then nbr c else nbr (ptr c)
/-- Those rows. -/
def nRow (c : Dev nD) (h : Fin 2) (k : Fin 8) : Vec F S64x1024 .bf16 := k0_pay1 (xRow m ρ (srcDev c h) h k)
/-- The rows of the result. -/
def oRow (c : Dev nD) (h : Fin 2) (k : Fin 8) : Vec F S64x1024 .f32 := k0_pay10 (xRow m ρ c h k) (nRow m ρ c h k) (rRow m ρ c h k) (gVec m ρ c)

theorem srcDev_own (c : Dev nD) : srcDev c (hf c) = nbr c := if_pos rfl
theorem srcDev_pass (c : Dev nD) : srcDev (ptr c) (hf c) = srcDev c (hf c) := by
  unfold srcDev; rw [if_neg (hf_ne_ptr c), if_pos rfl, ptr_ptr]

set_option backward.proofsInPublic true in
/-- The sixteen pieces put together to 1024 rows. -/
def assemble {e : EltTy} (v : Fin 2 → Fin 8 → Vec F S64x1024 e) : Vec F S1024x1024 e := fun i =>
  v ⟨(i 0).val / 512 % 2, Nat.mod_lt _ (by decide)⟩ ⟨(i 0).val / 64 % 8, Nat.mod_lt _ (by decide)⟩
    (fun a => match a with
      | 0 => ⟨(i 0).val % 64, Nat.mod_lt _ (by decide)⟩
      | 1 => i 1)

theorem assemble_emb {e : EltTy} (v : Fin 2 → Fin 8 → Vec F S64x1024 e) (h : Fin 2) (k : Fin 8) (j : S64x1024.Idx) :
    assemble v ((pRect h k).emb j) = v h k j := by
  have hj : (j 0).val < 64 := (j 0).isLt
  have e0 : ((pRect h k).emb j 0 : Nat) = 512 * h.val + 64 * k.val + (j 0).val := by
    rw [Rect.emb_apply]; simp [Rect.unit]
  have e1 : (pRect h k).emb j 1 = j 1 := Fin.ext (by rw [Rect.emb_apply]; simp [Rect.unit])
  have hh := h.isLt; have hk := k.isLt
  have a1 : (⟨((pRect h k).emb j 0 : Nat) / 512 % 2, Nat.mod_lt _ (by decide)⟩ : Fin 2) = h := Fin.ext (by simp only [e0]; omega)
  have a2 : (⟨((pRect h k).emb j 0 : Nat) / 64 % 8, Nat.mod_lt _ (by decide)⟩ : Fin 8) = k := Fin.ext (by simp only [e0]; omega)
  unfold assemble
  rw [a1, a2]
  congr 1
  funext a
  match a with
  | 0 => exact Fin.ext (by show ((pRect h k).emb j 0 : Nat) % 64 = _; rw [e0]; omega)
  | 1 => exact e1

/-- The landing buffer and the result, filled. -/
def nFin (c : Dev nD) : (cc0_scratch1 : Ref sig .tc).ty.Contents (Elt F) := assemble (nRow m ρ c)
def oFin (c : Dev nD) : (cc0_stg3_0 : Ref sig .tc).ty.Contents (Elt F) := assemble (oRow m ρ c)

/-- Piece `k` of the send buffer of `c`; a piece of the landing buffer; of the result's staging buffer. -/
def sPts (c : Dev nD) (k : Fin 8) (f : Buf (Elt F) ((c : Thread nD τ).loc cc0_scratch0)) : sProp 𝕄 :=
  (sPiece k).view.loc (c : Thread nD τ) ↦[(sPiece k).view.set]{fullShare} f
def nPts (c : Dev nD) (q : PosShare TreeShare) (h : Fin 2) (k : Fin 8) (f : Buf (Elt F) ((c : Thread nD τ).loc cc0_scratch1)) : sProp 𝕄 :=
  (nP h k).view.loc (c : Thread nD τ) ↦[(nP h k).view.set]{q} f
def oPts (c : Dev nD) (h : Fin 2) (k : Fin 8) (f : Buf (Elt F) ((c : Thread nD τ).loc cc0_stg3_0)) : sProp 𝕄 :=
  (oP h k).view.loc (c : Thread nD τ) ↦[(oP h k).view.set]{fullShare} f

instance sPts_storable (c : Dev nD) (k) (f) : BI.Storable (upEmb : UEmb _ 𝕄) (sPts (F := F) c k f) := by unfold sPts; infer_instance
instance nPts_storable (c : Dev nD) (q h k) (f) : BI.Storable (upEmb : UEmb _ 𝕄) (nPts (F := F) c q h k f) := by unfold nPts; infer_instance

/-! ## The schedule -/

/-- What a barrier unit hands to `c`: from `ptr c` (`true`) or `nbr c` (`false`), the half `hf c` of its landing buffer. -/
def barPay (c : Dev nD) (d : Bool) : sProp 𝕄 :=
  bigSep Finset.univ fun k : Fin 8 => iprop(∃ f, nPts (if d then ptr c else nbr c) fullShare (hf c) k f)

/-- What a transfer's semaphore hands to `c`. -/
def dmaPay (c : Dev nD) (q : Fin 4) (k : Fin 8) : sProp 𝕄 := match q with
  | 0 => iprop(∃ f, sPts c k f)
  | 1 => nPts c fullShare (hf c) k (nFin m ρ c)
  | 2 => nPts c fullShare.left (hf c) k (nFin m ρ c)
  | 3 => nPts c fullShare (oth (hf c)) k (nFin m ρ c)

instance barPay_storable (c : Dev nD) (d : Bool) : BI.Storable (upEmb : UEmb _ 𝕄) (barPay (F := F) c d) := by
  unfold barPay; infer_instance
instance dmaPay_storable (c : Dev nD) (q : Fin 4) (k : Fin 8) : BI.Storable (upEmb : UEmb _ 𝕄) (dmaPay m ρ c q k) := by
  match q with
  | 0 => dsimp only [dmaPay]; infer_instance
  | 1 => dsimp only [dmaPay]; infer_instance
  | 2 => dsimp only [dmaPay]; infer_instance
  | 3 => dsimp only [dmaPay]; infer_instance

/-- The duties of a semaphore in its one round. -/
def dutiesOf : SemLoc sig → Finset Bool
  | .reg s => if s = barS then Finset.univ else ∅
  | .dma s => match ownIx s with
    | some _ => {false}
    | none => ∅
def amountOf : SemLoc sig → ℕ
  | .reg _ => 1
  | .dma _ => N
def payOf (c : Dev nD) (s : SemLoc sig) (d : Bool) : sProp 𝕄 := match s with
  | .reg _ => barPay c d
  | .dma s => match ownIx s with
    | some qk => dmaPay m ρ c qk.1 qk.2
    | none => iprop(emp)

/-- One round, round 0. -/
def Rd : Rounds.Schedule (GSem nD τ sig) Bool 𝕄 where
  duties g r := if r = 0 ∧ g.1.2 = .tc then dutiesOf g.2 else ∅
  unitless _ := False
  amount g _ _ := amountOf g.2
  payload g _ d := payOf m ρ g.1.1 g.2 d
  amount_pos g _ _ _ := by
    rcases g with ⟨_, _ | _⟩
    · exact Nat.one_pos
    · exact N_pos

instance Rd_payload_storable (g : GSem nD τ sig) (r : ℕ) (d : Bool) :
    BI.Storable (upEmb : UEmb _ 𝕄) ((Rd (F := F) m ρ).payload g r d) := by
  show BI.Storable upEmb (payOf m ρ g.1.1 g.2 d)
  unfold payOf
  repeat' split
  all_goals infer_instance

section Sched
variable (c : Dev nD) (q : Fin 4) (k : Fin 8)

theorem duties_bar : (Rd (F := F) m ρ).duties (barCell c) 0 = Finset.univ := rfl
theorem duties_dma : (Rd (F := F) m ρ).duties (cell c q k) 0 = {false} := by
  dsimp only [Rd, dutiesOf]; rw [ownIx_dsem]; rfl
theorem duties_later (g : GSem nD τ sig) : ∀ r, 1 ≤ r → (Rd (F := F) m ρ).duties g r = ∅ :=
  fun r hr => if_neg fun h => by omega
theorem amount_bar (d : Bool) : (Rd (F := F) m ρ).amount (barCell c) 0 d = 1 := rfl
theorem amount_dma (d : Bool) : (Rd (F := F) m ρ).amount (cell c q k) 0 d = N := rfl
theorem expect_bar : (Rd (F := F) m ρ).expect (barCell c) 0 = 2 := rfl
theorem expect_dma : (Rd (F := F) m ρ).expect (cell c q k) 0 = N := by
  unfold Schedule.expect Schedule.amountOf; rw [duties_dma, Finset.sum_singleton, amount_dma]
theorem payload_bar (d : Bool) : (Rd (F := F) m ρ).payload (barCell c) 0 d = barPay c d := rfl
theorem payload_dma (d : Bool) : (Rd (F := F) m ρ).payload (cell c q k) 0 d = dmaPay m ρ c q k := by
  dsimp only [Rd, payOf]; rw [ownIx_dsem]
theorem rest_bar : bigSep ((Rd (F := F) m ρ).duties (barCell c) 0 \ ∅) (fun d => (Rd (F := F) m ρ).payload (barCell c) 0 d)
    = iprop(barPay c false ∗ barPay c true) := by
  rw [Finset.sdiff_empty, duties_bar, bigSep_univ_eq_bigSepL [false, true] (by decide) (by decide), bigSepL_cons_cons, bigSepL_singleton,
    payload_bar, payload_bar]
  rfl
theorem rest_dma : bigSep ((Rd (F := F) m ρ).duties (cell c q k) 0 \ ∅) (fun d => (Rd (F := F) m ρ).payload (cell c q k) 0 d)
    = dmaPay m ρ c q k := by
  rw [Finset.sdiff_empty, duties_dma, bigSep_singleton, payload_dma]

end Sched

/-! ## What a device owes, and the levels -/

abbrev Debt : Type := CellTallies nD τ sig Unit

/-- What device `c` still owes along x (along y) when the first `n` pieces have been sent. -/
def remX (c : Dev nD) (n : ℕ) : Debt := ∑ k ∈ Finset.univ.filter (fun k : Fin 8 => n ≤ k.val), tallyAt (cell (nbr c) 1 k) () N
def remY (c : Dev nD) (n : ℕ) : Debt := ∑ k ∈ Finset.univ.filter (fun k : Fin 8 => n ≤ k.val), tallyAt (cell (ptr c) 3 k) () N

theorem filter_step (k : Fin 8) : Finset.univ.filter (fun j : Fin 8 => k.val ≤ j.val) = insert k (Finset.univ.filter (fun j : Fin 8 => k.val + 1 ≤ j.val)) := by
  revert k; decide
theorem filter_notMem (k : Fin 8) : k ∉ Finset.univ.filter (fun j : Fin 8 => k.val + 1 ≤ j.val) := by revert k; decide
theorem filter_eight : Finset.univ.filter (fun j : Fin 8 => 8 ≤ j.val) = ∅ := by decide

theorem remX_step (c : Dev nD) (k : Fin 8) : remX c k.val = remX c (k.val + 1) + tallyAt (cell (nbr c) 1 k) () N := by
  unfold remX; rw [filter_step, Finset.sum_insert (filter_notMem k), add_comm]
theorem remY_step (c : Dev nD) (k : Fin 8) : remY c k.val = remY c (k.val + 1) + tallyAt (cell (ptr c) 3 k) () N := by
  unfold remY; rw [filter_step, Finset.sum_insert (filter_notMem k), add_comm]
theorem remX_eight (c : Dev nD) : remX c 8 = 0 := by unfold remX; rw [filter_eight, Finset.sum_empty]
theorem remY_eight (c : Dev nD) : remY c 8 = 0 := by unfold remY; rw [filter_eight, Finset.sum_empty]

/-- The debt at launch: all arrivals at both peers and a unit at both peers' barriers. -/
def O₁ (c : Dev nD) : Debt := (remY c 0 + remX c 0) + tallyAt (barCell (ptr c)) () 1
def O₀ (c : Dev nD) : Debt := O₁ c + tallyAt (barCell (nbr c)) () 1

def L (g : GSem nD τ sig) : Finset Unit := if g.1.2 = .tc then {()} else ∅
/-- Staging and departures at 0, barriers at 1, arrivals x at 2, arrivals y at 3. -/
def lvOf : SemLoc sig → ℕ
  | .reg _ => 1
  | .dma s => match ownIx s with
    | some (1, _) => 2
    | some (3, _) => 3
    | _ => 0
def lv (g : GSem nD τ sig) (_ : Unit) : ℕ := lvOf g.2

theorem lv_bar (c : Dev nD) : lv (barCell c) () = 1 := rfl
theorem lv_x (c : Dev nD) (k : Fin 8) : lv (cell c 1 k) () = 2 := by dsimp only [lv, lvOf]; rw [ownIx_dsem]; rfl
theorem lv_y (c : Dev nD) (k : Fin 8) : lv (cell c 3 k) () = 3 := by dsimp only [lv, lvOf]; rw [ownIx_dsem]; rfl
theorem L_of_ne (g : GSem nD τ sig) (h : g.1.2 ≠ .tc) : L g = ∅ := if_neg h
theorem L_tc (c : Dev nD) (sm : SemLoc sig) : L ((c : Thread nD τ), sm) = {()} := if_pos rfl

/-- A debt lies above level `l`: whatever cell it names is a TensorCore's, at a level above `l`. -/
def Above (l : ℕ) (O : Debt) : Prop := ∀ g u, 0 < O g u → g.1.2 = .tc ∧ l < lv g u

theorem above_add {l : ℕ} {O O' : Debt} (h : Above l O) (h' : Above l O') : Above l (O + O') := fun g u hg => by
  rw [Pi.add_apply, Finsupp.add_apply] at hg
  have hp : 0 < O g u ∨ 0 < O' g u := by omega
  rcases hp with h1 | h1
  · exact h g u h1
  · exact h' g u h1
theorem above_zero {l : ℕ} : Above l 0 := fun g u hg => absurd hg (Nat.lt_irrefl 0)
theorem above_tally {l : ℕ} (c : Dev nD) (sm : SemLoc sig) (n : ℕ) (h : l < lv ((c : Thread nD τ), sm) ()) :
    Above l (tallyAt ((c : Thread nD τ), sm) () n) := fun g u hg => by
  rw [tallyAt_apply] at hg
  by_cases e : g = ((c : Thread nD τ), sm) ∧ u = ()
  · rw [e.1]; exact ⟨rfl, h⟩
  · rw [if_neg e] at hg; exact absurd hg (Nat.lt_irrefl 0)
theorem above_sum {l : ℕ} (S : Finset (Fin 8)) (f : Fin 8 → Debt) (h : ∀ k, Above l (f k)) : Above l (∑ k ∈ S, f k) := by
  induction S using Finset.induction_on with
  | empty => rw [Finset.sum_empty]; exact above_zero
  | insert k S hk ih => rw [Finset.sum_insert hk]; exact above_add (h k) ih
theorem above_remX (c : Dev nD) (n : ℕ) {l : ℕ} (hl : l < 2) : Above l (remX c n) :=
  above_sum _ _ fun k => above_tally _ _ _ (by rw [lv_x]; exact hl)
theorem above_remY (c : Dev nD) (n : ℕ) {l : ℕ} (hl : l < 3) : Above l (remY c n) :=
  above_sum _ _ fun k => above_tally _ _ _ (by rw [lv_y]; exact hl)
theorem above_O₀ (c : Dev nD) : Above 0 (O₀ c) :=
  above_add (above_add (above_add (above_remY c 0 (by decide)) (above_remX c 0 (by decide)))
    (above_tally _ _ _ (by rw [lv_bar]; decide))) (above_tally _ _ _ (by rw [lv_bar]; decide))

/-- A device may wait at a semaphore whose level is below all it owes. -/
theorem mayWait (c : Dev nD) (sm : SemLoc sig) (O : Debt) (l : ℕ) (hl : lv ((c : Thread nD τ), sm) () ≤ l) (hO : Above l O) :
    (levAts L lv : sProp 𝕄) ⊢ MayWait (c : Thread nD τ) sm () O :=
  MayOwe.of_cut (L := L) (lev := lv) l (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hl)
    (fun g u hg => (hO g u hg).2)

end Cert.KernelIdeal.Exchange

end
-- ==== Proof.KernelIdeal.Steps.lean ====
/-
The four steps of the body, each at one symbolic device and one symbolic piece: what it needs and what it leaves.
-/
module

public import proofs.«01_k».proof.Proof.KernelIdeal.Protocol

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## The records: every cell's invariant, and that every cell has reached round 0 -/

/-- A device's cells: its barrier, and the 32 cells of its transfers. -/
abbrev Ix : Type := Unit ⊕ (Fin 4 × Fin 8)
def semOf : Ix → SemLoc sig
  | .inl _ => .reg barS
  | .inr qk => .dma (dsem qk.1 qk.2)
abbrev kcell (ci : Dev nD × Ix) : GSem nD τ sig := ((ci.1 : Thread nD τ), semOf ci.2)

def records (K : Dev nD × Ix → ℕ) : sProp 𝕄 :=
  iprop((bigSep Finset.univ fun ci : Dev nD × Ix => cellInv ER (Rd m ρ) (K ci) (kcell ci))
    ∗ bigSep Finset.univ fun ci : Dev nD × Ix => reached ER (kcell ci) 0)

instance records_persistent (K : Dev nD × Ix → ℕ) : BI.Persistent (records m ρ K) := by unfold records; infer_instance

variable (K : Dev nD × Ix → ℕ)

theorem inv_at (ci : Dev nD × Ix) : records m ρ K ⊢ cellInv ER (Rd m ρ) (K ci) (kcell ci) := by
  unfold records
  exact sep_elim_left.trans (bigSep_elim (Finset.mem_univ ci))
theorem reached_at (ci : Dev nD × Ix) : records m ρ K ⊢ reached ER (kcell ci) 0 := by
  unfold records
  exact sep_elim_right.trans (bigSep_elim (Finset.mem_univ ci))
theorem inv_bar (c : Dev nD) : records m ρ K ⊢ cellInv ER (Rd m ρ) (K (c, .inl ())) (barCell c) := inv_at m ρ K (c, .inl ())
theorem inv_dma (c : Dev nD) (q : Fin 4) (k : Fin 8) : records m ρ K ⊢ cellInv ER (Rd m ρ) (K (c, .inr (q, k))) (cell c q k) := inv_at m ρ K (c, .inr (q, k))
theorem reached_bar (c : Dev nD) : records m ρ K ⊢ reached ER (barCell c) 0 := reached_at m ρ K (c, .inl ())
theorem reached_dma (c : Dev nD) (q : Fin 4) (k : Fin 8) : records m ρ K ⊢ reached ER (cell c q k) 0 := reached_at m ρ K (c, .inr (q, k))

/-- The rest of a transfer's round, its semaphore named by its own family. -/
theorem rest_at (c : Dev nD) (q : Fin 4) (k : Fin 8) (A : DmaSems sig S8) (hA : fam q = A) :
    bigSep ((Rd (F := F) m ρ).duties ((c : Thread nD τ), .dma (famSem A k)) 0 \ ∅) (fun d => (Rd (F := F) m ρ).payload ((c : Thread nD τ), .dma (famSem A k)) 0 d)
      ⊢ dmaPay m ρ c q k := by
  subst hA; exact Entails.of_eq (rest_dma m ρ c q k)

/-! ## Pieces -/

/-- A piece's points-to depends on the piece's rows alone. -/
theorem nPts_congr (c : Dev nD) (q : PosShare TreeShare) (h : Fin 2) (k : Fin 8) (f g : Buf (Elt F) ((c : Thread nD τ).loc cc0_scratch1))
    (hfg : ∀ j : S64x1024.Idx, f ((pRect h k).emb j) = g ((pRect h k).emb j)) : nPts (F := F) c q h k f = nPts c q h k g := by
  unfold nPts
  refine pointsTo_congr fun i hi => ?_
  obtain ⟨j, -, rfl⟩ := Finset.mem_map.mp hi
  exact hfg j
theorem oPts_congr (c : Dev nD) (h : Fin 2) (k : Fin 8) (f g : Buf (Elt F) ((c : Thread nD τ).loc cc0_stg3_0))
    (hfg : ∀ j : S64x1024.Idx, f ((pRect h k).emb j) = g ((pRect h k).emb j)) : oPts (F := F) c h k f = oPts c h k g := by
  unfold oPts
  refine pointsTo_congr fun i hi => ?_
  obtain ⟨j, -, rfl⟩ := Finset.mem_map.mp hi
  exact hfg j

/-- A piece written with the rows it is to hold, holds them. -/
theorem nPts_write (c : Dev nD) (q : PosShare TreeShare) (h : Fin 2) (k : Fin 8) (f : Buf (Elt F) ((c : Thread nD τ).loc cc0_scratch1))
    (w : Vec F S64x1024 .bf16) (hw : w = nRow m ρ c h k) :
    nPts (F := F) c q h k ((nP h k).view.write (Elt F) f w Finset.univ) = nPts c q h k (nFin m ρ c) := by
  refine nPts_congr c q h k _ _ fun j => ?_
  refine ((nP h k).view.write_emb_of_mem (Val := Elt F) f w (Finset.mem_univ j)).trans ?_
  rw [hw]
  exact (assemble_emb (nRow m ρ c) h k j).symm
theorem oPts_write (c : Dev nD) (h : Fin 2) (k : Fin 8) (f : Buf (Elt F) ((c : Thread nD τ).loc cc0_stg3_0))
    (w : Vec F S64x1024 .f32) (hw : w = oRow m ρ c h k) :
    oPts (F := F) c h k ((oP h k).view.write (Elt F) f w Finset.univ) = oPts c h k (oFin m ρ c) := by
  refine oPts_congr c h k _ _ fun j => ?_
  refine ((oP h k).view.write_emb_of_mem (Val := Elt F) f w (Finset.mem_univ j)).trans ?_
  rw [hw]
  exact (assemble_emb (oRow m ρ c) h k j).symm
/-- A filled landing buffer is read at a piece as that piece's rows. -/
theorem nFin_read (c : Dev nD) (h : Fin 2) (k : Fin 8) : (nP h k).view.read (Elt F) (nFin m ρ c) = nRow m ρ c h k :=
  funext fun j => assemble_emb (nRow m ρ c) h k j

/-! ## The operands, as the body holds them throughout -/

def ops (c : Dev nD) : sProp 𝕄 :=
  iprop((((c : Thread nD τ).loc cc0_stg0_0) ↦{fullShare} xstg m ρ c) ∗ (((c : Thread nD τ).loc cc0_stg1_0) ↦{fullShare} rstg m ρ c)
    ∗ (((c : Thread nD τ).loc cc0_stg2_0) ↦{fullShare} gstg m ρ c))

/-! ## Sending 64 rows to a peer -/

theorem mem_dma (c : Dev nD) (q : Fin 4) (k : Fin 8) : false ∈ (Rd (F := F) m ρ).duties (cell c q k) 0 := by
  rw [duties_dma]; exact Finset.mem_singleton_self _

/-- A transfer of piece `k` from `src` on `c` into `d`'s landing buffer: it pays the departure cell `qs` of `c` and the
    arrival cell `qr` of `d`, given that the source and the written rows are what those cells hand over. -/
theorem wp_send (c d : Dev nD) (src : Memref sig .tc .vmem S64x1024 .bf16) (qs qr : Fin 4) (As Ar : DmaSems sig S8) (hAs : fam qs = As) (hAr : fam qr = Ar)
    (h : Fin 2) (k : Fin 8) (q : PosShare TreeShare) (fs : Buf (Elt F) (src.view.loc (c : Thread nD τ))) (fn : Buf (Elt F) ((d : Thread nD τ).loc cc0_scratch1))
    (O O' : Debt) (hO : O = O' + tallyAt (cell d qr k) () N) (W : Waits sig Unit)
    (h1 : (src.view.loc (c : Thread nD τ) ↦[src.view.set]{q} fs) ⊢ dmaPay m ρ c qs k)
    (h2 : nPts d fullShare h k ((nP h k).view.write (Elt F) fn (src.view.read (Elt F) fs) Finset.univ) ⊢ dmaPay m ρ d qr k)
    {hsc} {hsrc} {hdst} {hsem} {α : Type} {Q : α → sProp 𝕄} {kk : PUnit → Prog (TpuEff nD τ sig (Elt F) Λ₀ .tc) α} :
    iprop(records m ρ K ∗ (src.view.loc (c : Thread nD τ) ↦[src.view.set]{q} fs) ∗ nPts d fullShare h k fn ∗ owes (c : Thread nD τ) O W
        ∗ dutyTok ER (cell c qs k) 0 false ∗ dutyTok ER (cell d qr k) 0 false)
      ⊢ iprop(((cred (tallyAt (cell c qs k) () N) ∗ owes (c : Thread nD τ) O' W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src (.remote (Dev.tc d : Thread nD τ) (nP h k) (.dma (famSem As k)) hsc) (.dma (famSem Ar k)) hsrc hdst hsem) kk) Q) := by
  subst hAs hAr
  rw [← payload_dma m ρ c qs k false] at h1
  rw [← payload_dma m ρ d qr k false] at h2
  unfold nPts at h2 ⊢
  refine BI.Entails.trans ?_ (Rounds.wp_send_pointsTo (Q := Q) (k := kk) 𝒱₀ ER (Rd m ρ) (c : Thread nD τ) none (hsc := hsc) (hsrc := hsrc) (hdst := hdst) (hsem := hsem)
    (κ₁ := K (c, .inr (qs, k))) (κ₂ := K (d, .inr (qr, k)))
    (r₁ := 0) (r₂ := 0) (d₁ := false) (d₂ := false) (fd := fn) (fs := fs) (q := q) (sS := .dma (dsem qs k)) (sem := .dma (dsem qr k))
    (c' := (Dev.tc d : Thread nD τ)) (src := src) (dst := nP h k) (defs := defs₀ (F := F)) (Es := Set.univ)
    (mem_dma m ρ c qs k) (mem_dma m ρ d qr k)
    () () N rfl (amount_dma m ρ c qs k false) (amount_dma m ρ d qr k false) O' hO (W := W) h1 h2)
  show (_ : sProp 𝕄) ⊢ _
  iintro ⟨#HR, Hs, Hn, HO, Ht0, Ht1⟩
  isplitr; · iapply (inv_dma m ρ K c qs k); iexact HR
  isplitr; · iapply (inv_dma m ρ K d qr k); iexact HR
  isplitl [Hs]; · iexact Hs
  isplitl [Hn]; · iexact Hn
  isplitl [HO]; · iexact HO
  isplitl [Ht0]; · iexact Ht0
  isplitr; · iapply (reached_dma m ρ K c qs k); iexact HR
  isplitl [Ht1]; · iexact Ht1
  iapply (reached_dma m ρ K d qr k); iexact HR

/-! ## Along x: fill a piece of the send buffer and send it -/

theorem x_step (c dst : Dev nD) (k : Fin 8) (hdst : dst = nbr c) (o1 : Fin 3 → Nat) (i1) (h1 : o1 = pOff3 (hf c) k)
    (o2 : Fin 2 → Nat) (i2) (w2) (h2 : o2 = pOff (hf c) k) (W : Waits sig Unit) :
    iprop(records m ρ K ∗ ops m ρ c ∗ owes (c : Thread nD τ) (remY c 0 + remX c k.val) W
        ∗ (∃ f, sPts c k f) ∗ (∃ f, nPts (nbr c) fullShare (hf c) k f)
        ∗ dutyTok ER (cell c 0 k) 0 false ∗ dutyTok ER (cell (nbr c) 1 k) 0 false)
      ⊢ wp frame (wpE (defs₀ (F := F)) 𝒱₀ (c : Thread nD τ) none) Set.univ (xStep dst o1 i1 o2 i2 w2 k)
          (fun _ => iprop(ops m ρ c ∗ owes (c : Thread nD τ) (remY c 0 + remX c (k.val + 1)) W ∗ cred (tallyAt (cell c 0 k) () N))) := by
  subst hdst h1 h2
  unfold xStep ops
  simp only [Prog.lift, Prog.bind_op, Prog.bind_ret, Prog.pure_eq_ret]
  iintro ⟨#HR, ⟨Hx, Hr, Hg⟩, HO, ⟨%fs, Hs⟩, ⟨%fn, Hn⟩, Ht0, Ht1⟩
  iapply (wp_load 𝒱₀ (c : Thread nD τ) none Set.univ (m := xM) (Finset.subset_univ _)) $$ Hx; iintro Hx
  unfold sPts
  iapply (wp_load_rect 𝒱₀ (c : Thread nD τ) none Set.univ (m := sM) (r := sRect k) (Finset.Subset.refl _)) $$ Hs; iintro Hs
  iapply (wp_store 𝒱₀ (c : Thread nD τ) none Set.univ (m := sM) (r := sRect k) (Mk := Finset.univ) (S := (sM.access (sRect k)).set) (View.setOn_subset_set _ _)) $$ Hs; iintro Hs
  iapply (wp_send m ρ K c (nbr c) (sPiece k) 0 1 cc0_scratch2 cc0_scratch3 rfl rfl (hf c) k fullShare
    ((sM.access (sRect k)).write (Elt F) fs (k0_pay1 (xRow m ρ c (hf c) k)) Finset.univ) fn (remY c 0 + remX c k.val) (remY c 0 + remX c (k.val + 1))
    (by rw [remX_step, add_assoc]) W
    (by dsimp only [dmaPay]; unfold sPts; iintro H; iexists _; iexact H)
    (by
      refine Entails.of_eq ?_
      dsimp only [dmaPay]
      rw [hf_nbr]
      refine nPts_write m ρ (nbr c) fullShare (hf c) k fn _ ?_
      refine (View.read_write_univ (v := (sPiece k).view) _ _).trans ?_
      unfold nRow
      rw [← hf_nbr, srcDev_own, nbr_nbr])) $$ [Hs Hn HO Ht0 Ht1]
  · isplitr; · iexact HR
    isplitl [Hs]; · iexact Hs
    isplitl [Hn]; · iexact Hn
    isplitl [HO]; · iexact HO
    isplitl [Ht0] <;> iassumption
  iintro ⟨Hc, HO⟩
  rw [wp_ret]; imodintro
  isplitl [Hx Hr Hg]
  · isplitl [Hx]; · iexact Hx
    isplitl [Hr] <;> iassumption
  isplitl [HO] <;> iassumption

/-! ## The rows of the result -/

theorem rows_step (c : Dev nD) (h : Fin 2) (k : Fin 8) (q : PosShare TreeShare) (o1 : Fin 3 → Nat) (i1) (h1 : o1 = pOff3 h k)
    (o3 : Fin 2 → Nat) (i3) (h3 : o3 = pOff h k) :
    iprop(ops m ρ c ∗ nPts c q h k (nFin m ρ c) ∗ (∃ f, oPts c h k f))
      ⊢ wp frame (wpE (defs₀ (F := F)) 𝒱₀ (c : Thread nD τ) none) Set.univ (rowsStep o1 i1 o3 i3)
          (fun _ => iprop(ops m ρ c ∗ nPts c q h k (nFin m ρ c) ∗ oPts c h k (oFin m ρ c))) := by
  subst h1 h3
  unfold rowsStep ops
  simp only [Prog.lift, Prog.bind_op, Prog.bind_ret, Prog.pure_eq_ret]
  iintro ⟨⟨Hx, Hr, Hg⟩, Hn, ⟨%fo, Ho⟩⟩
  iapply (wp_load 𝒱₀ (c : Thread nD τ) none Set.univ (m := xM) (Finset.subset_univ _)) $$ Hx; iintro Hx
  unfold nPts
  iapply (wp_load_rect 𝒱₀ (c : Thread nD τ) none Set.univ (m := nM) (r := pRect h k) (Finset.Subset.refl _)) $$ Hn; iintro Hn
  iapply (wp_load 𝒱₀ (c : Thread nD τ) none Set.univ (m := rM) (Finset.subset_univ _)) $$ Hr; iintro Hr
  iapply (wp_load 𝒱₀ (c : Thread nD τ) none Set.univ (m := gM) (Finset.subset_univ _)) $$ Hg; iintro Hg
  ihave Ho := (Entails.of_eq (show oPts (F := F) c h k fo = _ from by unfold oPts; rfl)) $$ Ho
  iapply (wp_load_rect 𝒱₀ (c : Thread nD τ) none Set.univ (m := oM) (r := pRect h k) (Finset.Subset.refl _)) $$ Ho; iintro Ho
  iapply (wp_store 𝒱₀ (c : Thread nD τ) none Set.univ (m := oM) (r := pRect h k) (Mk := Finset.univ) (S := (oM.access (pRect h k)).set) (View.setOn_subset_set _ _)) $$ Ho; iintro Ho
  rw [wp_ret]; imodintro
  isplitl [Hx Hr Hg]
  · isplitl [Hx]; · iexact Hx
    isplitl [Hr] <;> iassumption
  isplitl [Hn]; · iexact Hn
  rw [← oPts_write m ρ c h k fo _ rfl]
  unfold oPts oRow
  rw [← nFin_read]
  iexact Ho

/-! ## Along y: take a piece that arrived and pass it on -/

theorem y_step (c dst : Dev nD) (k : Fin 8) (hdst : dst = ptr c)
    (o2 : Fin 2 → Nat) (i2) (w2) (h2 : o2 = pOff (hf c) k) (W : Waits sig Unit) :
    iprop(records m ρ K ∗ levAts L lv ∗ owes (c : Thread nD τ) (remY c k.val) W
        ∗ cred (tallyAt (cell c 1 k) () N) ∗ atPos ER (cell c 1 k) 0 ∅ 0 ∗ (∃ f, nPts (ptr c) fullShare (hf c) k f)
        ∗ dutyTok ER (cell c 2 k) 0 false ∗ dutyTok ER (cell (ptr c) 3 k) 0 false)
      ⊢ wp frame (wpE (defs₀ (F := F)) 𝒱₀ (c : Thread nD τ) none) Set.univ (yStep dst o2 i2 w2 k)
          (fun _ => iprop(owes (c : Thread nD τ) (remY c (k.val + 1)) (insert (SemLoc.dma (dsem 1 k), ()) W) ∗ semVal (cell c 1 k) 0
            ∗ cred (tallyAt (cell c 2 k) () N) ∗ nPts c fullShare.right (hf c) k (nFin m ρ c))) := by
  subst hdst h2
  unfold yStep
  simp only [Prog.lift, Prog.bind_op, Prog.bind_ret, Prog.pure_eq_ret]
  iintro ⟨#HR, #Hlev, HO, Hcr, Hat, ⟨%fn, Hn⟩, Ht2, Ht3⟩
  iapply (Rounds.wp_wait_rest_token 𝒱₀ ER (Rd m ρ) (c : Thread nD τ) none (κ := K (c, .inr (1, k)))
      (wpE_waitDma2_eq 𝒱₀ (c : Thread nD τ) none Set.univ) (Set.mem_univ _) () (O := remY c k.val) (W := W) (R := 0) (m := 0) (T := ∅)
      (by rw [Nat.zero_add]; exact (expect_dma m ρ c 1 k).symm)) $$ [Hcr HO Hat]
  · isplitr; · iapply (inv_dma m ρ K c 1 k); iexact HR
    isplitl [Hcr]; · iexact Hcr
    isplitl [HO]; · iexact HO
    isplitr; · iapply (mayWait c (.dma (dsem 1 k)) (remY c k.val) 2 (le_of_eq (lv_x c k)) (above_remY c _ (by decide))); iexact Hlev
    iexact Hat
  iintro ⟨HO, Hat, -, Hpay⟩
  ihave Hown := (rest_at m ρ c 1 k cc0_scratch3 rfl) $$ Hpay
  imod (Rounds.cell_close ER (Rd m ρ) (Set.mem_univ (K (c, .inr (1, k)))) (fun h => h) (R := 0 + 1) (duties_later m ρ (cell c 1 k))) $$ [Hat] with Hz
  · isplitr; · iapply (inv_dma m ρ K c 1 k); iexact HR
    iexact Hat
  dsimp only [dmaPay]
  ihave Hsp := (show nPts (F := F) c fullShare (hf c) k (nFin m ρ c)
      ⊢ iprop(nPts c fullShare.left (hf c) k (nFin m ρ c) ∗ nPts c fullShare.right (hf c) k (nFin m ρ c)) from by
    unfold nPts; exact (pointsTo_share (PosShare.mem_left_op_right fullShare)).1) $$ Hown
  icases Hsp with ⟨Hl, Hrt⟩
  iapply (wp_send m ρ K c (ptr c) (nP (hf c) k) 2 3 cc0_scratch4 cc0_scratch5 rfl rfl (hf c) k fullShare.left (nFin m ρ c) fn (remY c k.val) (remY c (k.val + 1))
    (remY_step c k) (insert (SemLoc.dma (dsem 1 k), ()) W)
    (by dsimp only [dmaPay]; unfold nPts; exact BI.Entails.refl _)
    (by
      refine Entails.of_eq ?_
      dsimp only [dmaPay]
      rw [hf_ptr, oth_oth]
      refine nPts_write m ρ (ptr c) fullShare (hf c) k fn _ ?_
      refine (nFin_read m ρ c (hf c) k).trans ?_
      unfold nRow
      rw [srcDev_pass])) $$ [Hl Hn HO Ht2 Ht3]
  · isplitr; · iexact HR
    isplitl [Hl]; · unfold nPts; iexact Hl
    isplitl [Hn]; · iexact Hn
    isplitl [HO]; · iexact HO
    isplitl [Ht2] <;> iassumption
  iintro ⟨Hc, HO⟩
  rw [wp_ret]; imodintro
  isplitl [HO]; · iexact HO
  isplitl [Hz]; · iexact Hz
  isplitl [Hc] <;> iassumption

/-! ## Waiting: a cell whose round completes is closed, its payload taken -/

/-- After the last debt is paid: wait for a transfer's cell, close it, take what it hands over. -/
theorem z_step (c : Dev nD) (k : Fin 8) (o2 : Fin 2 → Nat) (i2) (w2) (h2 : o2 = pOff (hf c) k) (W : Waits sig Unit) :
    iprop(records m ρ K ∗ owes (c : Thread nD τ) 0 W ∗ cred (tallyAt (cell c 3 k) () N) ∗ atPos ER (cell c 3 k) 0 ∅ 0)
      ⊢ wp frame (wpE (defs₀ (F := F)) 𝒱₀ (c : Thread nD τ) none) Set.univ (zStep o2 i2 w2 k)
          (fun _ => iprop(owes (c : Thread nD τ) 0 (insert (SemLoc.dma (dsem 3 k), ()) W) ∗ semVal (cell c 3 k) 0
            ∗ nPts c fullShare (oth (hf c)) k (nFin m ρ c))) := by
  subst h2
  unfold zStep
  simp only [Prog.lift, Prog.bind_op, Prog.bind_ret, Prog.pure_eq_ret]
  iintro ⟨#HR, HO, Hcr, Hat⟩
  iapply (Rounds.wp_wait_rest_token 𝒱₀ ER (Rd m ρ) (c : Thread nD τ) none (κ := K (c, .inr (3, k)))
      (wpE_waitDma2_eq 𝒱₀ (c : Thread nD τ) none Set.univ) (Set.mem_univ _) () (O := 0) (W := W) (R := 0) (m := 0) (T := ∅)
      (by rw [Nat.zero_add]; exact (expect_dma m ρ c 3 k).symm)) $$ [Hcr HO Hat]
  · isplitr; · iapply (inv_dma m ρ K c 3 k); iexact HR
    isplitl [Hcr]; · iexact Hcr
    isplitl [HO]; · iexact HO
    isplitr; · rw [MayWait_zero]; iempintro
    iexact Hat
  iintro ⟨HO, Hat, -, Hpay⟩
  ihave Hown := (rest_at m ρ c 3 k cc0_scratch5 rfl) $$ Hpay
  imod (Rounds.cell_close ER (Rd m ρ) (Set.mem_univ (K (c, .inr (3, k)))) (fun h => h) (R := 0 + 1) (duties_later m ρ (cell c 3 k))) $$ [Hat] with Hz
  · isplitr; · iapply (inv_dma m ρ K c 3 k); iexact HR
    iexact Hat
  rw [wp_ret]; imodintro
  isplitl [HO]; · iexact HO
  isplitl [Hz]; · iexact Hz
  dsimp only [dmaPay]; iexact Hown

theorem w_step (c : Dev nD) (k : Fin 8) (o2 : Fin 2 → Nat) (i2) (w2) (h2 : o2 = pOff (hf c) k) (W : Waits sig Unit) :
    iprop(records m ρ K ∗ owes (c : Thread nD τ) 0 W ∗ cred (tallyAt (cell c 0 k) () N) ∗ atPos ER (cell c 0 k) 0 ∅ 0
        ∗ cred (tallyAt (cell c 2 k) () N) ∗ atPos ER (cell c 2 k) 0 ∅ 0)
      ⊢ wp frame (wpE (defs₀ (F := F)) 𝒱₀ (c : Thread nD τ) none) Set.univ (wStep o2 i2 w2 k)
          (fun _ => iprop(owes (c : Thread nD τ) 0 (insert (SemLoc.dma (dsem 2 k), ()) (insert (SemLoc.dma (dsem 0 k), ()) W))
            ∗ semVal (cell c 0 k) 0 ∗ semVal (cell c 2 k) 0
            ∗ (∃ f, sPts c k f) ∗ nPts c fullShare.left (hf c) k (nFin m ρ c))) := by
  subst h2
  unfold wStep
  simp only [Prog.lift, Prog.bind_op, Prog.bind_ret, Prog.pure_eq_ret]
  iintro ⟨#HR, HO, Hcr0, Hat0, Hcr2, Hat2⟩
  iapply (Rounds.wp_wait_rest_token 𝒱₀ ER (Rd m ρ) (c : Thread nD τ) none (κ := K (c, .inr (0, k)))
      (wpE_waitDma2_eq 𝒱₀ (c : Thread nD τ) none Set.univ) (Set.mem_univ _) () (O := 0) (W := W) (R := 0) (m := 0) (T := ∅)
      (by rw [Nat.zero_add]; exact (expect_dma m ρ c 0 k).symm)) $$ [Hcr0 HO Hat0]
  · isplitr; · iapply (inv_dma m ρ K c 0 k); iexact HR
    isplitl [Hcr0]; · iexact Hcr0
    isplitl [HO]; · iexact HO
    isplitr; · rw [MayWait_zero]; iempintro
    iexact Hat0
  iintro ⟨HO, Hat0, -, Hpay⟩
  ihave Hs := (rest_at m ρ c 0 k cc0_scratch2 rfl) $$ Hpay
  imod (Rounds.cell_close ER (Rd m ρ) (Set.mem_univ (K (c, .inr (0, k)))) (fun h => h) (R := 0 + 1) (duties_later m ρ (cell c 0 k))) $$ [Hat0] with Hz0
  · isplitr; · iapply (inv_dma m ρ K c 0 k); iexact HR
    iexact Hat0
  iapply (Rounds.wp_wait_rest_token 𝒱₀ ER (Rd m ρ) (c : Thread nD τ) none (κ := K (c, .inr (2, k)))
      (wpE_waitDma2_eq 𝒱₀ (c : Thread nD τ) none Set.univ) (Set.mem_univ _) () (O := 0) (W := insert (SemLoc.dma (dsem 0 k), ()) W) (R := 0) (m := 0) (T := ∅)
      (by rw [Nat.zero_add]; exact (expect_dma m ρ c 2 k).symm)) $$ [Hcr2 HO Hat2]
  · isplitr; · iapply (inv_dma m ρ K c 2 k); iexact HR
    isplitl [Hcr2]; · iexact Hcr2
    isplitl [HO]; · iexact HO
    isplitr; · rw [MayWait_zero]; iempintro
    iexact Hat2
  iintro ⟨HO, Hat2, -, Hpay⟩
  ihave Hn := (rest_at m ρ c 2 k cc0_scratch4 rfl) $$ Hpay
  imod (Rounds.cell_close ER (Rd m ρ) (Set.mem_univ (K (c, .inr (2, k)))) (fun h => h) (R := 0 + 1) (duties_later m ρ (cell c 2 k))) $$ [Hat2] with Hz2
  · isplitr; · iapply (inv_dma m ρ K c 2 k); iexact HR
    iexact Hat2
  rw [wp_ret]; imodintro
  dsimp only [dmaPay]
  isplitl [HO]; · iexact HO
  isplitl [Hz0]; · iexact Hz0
  isplitl [Hz2]; · iexact Hz2
  isplitl [Hs] <;> iassumption

end Cert.KernelIdeal.Exchange

end
-- ==== Proof.KernelIdeal.Split.lean ====
/-
The buffers whole and in pieces: 1024 rows as two halves of eight pieces, the send buffer as eight pieces.
-/
module

public import proofs.«01_k».proof.Proof.KernelIdeal.Steps
public import Idealize.ShloMosaic.Lib.Ring

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The rows of the pieces -/

theorem mem_pRect {h : Fin 2} {k : Fin 8} {i : S1024x1024.Idx} :
    i ∈ (pRect h k).set ↔ 512 * h.val + 64 * k.val ≤ (i 0).val ∧ (i 0).val < 512 * h.val + 64 * k.val + 64 := by
  have h1 : (i 1).val < 1024 := (i 1).isLt
  rw [Rect.mem_set_unit]
  constructor
  · intro H; exact H 0
  · intro H a
    match a with
    | 0 => exact H
    | 1 => exact ⟨Nat.zero_le _, by show (i 1).val < 0 + 1024; omega⟩
theorem mem_sRect {k : Fin 8} {i : S512x1024.Idx} : i ∈ (sRect k).set ↔ 64 * k.val ≤ (i 0).val ∧ (i 0).val < 64 * k.val + 64 := by
  have h1 : (i 1).val < 1024 := (i 1).isLt
  rw [Rect.mem_set_unit]
  constructor
  · intro H; exact H 0
  · intro H a
    match a with
    | 0 => exact H
    | 1 => exact ⟨Nat.zero_le _, by show (i 1).val < 0 + 1024; omega⟩

theorem pRect_disjoint (b b' : Fin 2 × Fin 8) (hb : b ≠ b') : Disjoint (pRect b.1 b.2).set (pRect b'.1 b'.2).set := by
  rw [Finset.disjoint_left]
  intro i h h'
  rw [mem_pRect] at h h'
  have := b.2.isLt; have := b'.2.isLt
  refine hb (Prod.ext (Fin.ext ?_) (Fin.ext ?_)) <;> omega
theorem pRect_cover : (Finset.univ.biUnion fun b : Fin 2 × Fin 8 => (pRect b.1 b.2).set) = Finset.univ := by
  ext i
  have h0 : (i 0).val < 1024 := (i 0).isLt
  simp only [Finset.mem_biUnion, Finset.mem_univ, true_and, iff_true]
  refine ⟨(⟨(i 0).val / 512, by omega⟩, ⟨(i 0).val / 64 % 8, by omega⟩), mem_pRect.mpr ?_⟩
  dsimp only
  omega
theorem sRect_disjoint (b b' : Fin 8) (hb : b ≠ b') : Disjoint (sRect b).set (sRect b').set := by
  rw [Finset.disjoint_left]
  intro i h h'
  rw [mem_sRect] at h h'
  exact hb (Fin.ext (by omega))
theorem sRect_cover : (Finset.univ.biUnion fun b : Fin 8 => (sRect b).set) = Finset.univ := by
  ext i
  have h0 : (i 0).val < 512 := (i 0).isLt
  simp only [Finset.mem_biUnion, Finset.mem_univ, true_and, iff_true]
  refine ⟨⟨(i 0).val / 64, by omega⟩, mem_sRect.mpr ?_⟩
  dsimp only
  omega

/-! ## Half by half -/

/-- A separating conjunction over the two halves, `h` first. -/
theorem bigSep_halves (h : Fin 2) (Φ : Fin 2 → sProp 𝕄) : bigSep Finset.univ Φ = iprop(Φ h ∗ Φ (oth h)) := by
  match h with
  | 0 => exact bigSep_univ_eq_bigSepL [0, 1] (by decide) (by decide) Φ
  | 1 => exact bigSep_univ_eq_bigSepL [1, 0] (by decide) (by decide) Φ

theorem nPts_rect (c : Dev nD) (q : PosShare TreeShare) (h : Fin 2) (k : Fin 8) (f : Buf (Elt F) ((c : Thread nD τ).loc cc0_scratch1)) :
    nPts (F := F) c q h k f = (((c : Thread nD τ).loc cc0_scratch1) ↦[(pRect h k).set]{q} f) := by
  unfold nPts
  rw [show (nP h k).view.set = (pRect h k).set from View.set_slice_whole _ _]
theorem oPts_rect (c : Dev nD) (h : Fin 2) (k : Fin 8) (f : Buf (Elt F) ((c : Thread nD τ).loc cc0_stg3_0)) :
    oPts (F := F) c h k f = (((c : Thread nD τ).loc cc0_stg3_0) ↦[(pRect h k).set]{fullShare} f) := by
  unfold oPts
  rw [show (oP h k).view.set = (pRect h k).set from View.set_slice_whole _ _]
theorem sPts_rect (c : Dev nD) (k : Fin 8) (f : Buf (Elt F) ((c : Thread nD τ).loc cc0_scratch0)) :
    sPts (F := F) c k f = (((c : Thread nD τ).loc cc0_scratch0) ↦[(sRect k).set]{fullShare} f) := by
  unfold sPts
  rw [show (sPiece k).view.set = (sRect k).set from View.set_slice_whole _ _]

/-- The landing buffer, and the result's staging buffer, as two halves of eight pieces. -/
theorem n_whole (c : Dev nD) (h : Fin 2) (f : Buf (Elt F) ((c : Thread nD τ).loc cc0_scratch1)) :
    (((c : Thread nD τ).loc cc0_scratch1) ↦{fullShare} f : sProp 𝕄)
      = iprop((bigSep Finset.univ fun k : Fin 8 => nPts c fullShare h k f) ∗ bigSep Finset.univ fun k : Fin 8 => nPts c fullShare (oth h) k f) := by
  rw [Ring.pointsTo_blocks (ℓ := (c : Thread nD τ).loc cc0_scratch1) (fun b : Fin 2 × Fin 8 => (pRect b.1 b.2).set) pRect_disjoint pRect_cover f, bigSep_univ_prod, bigSep_halves h]
  simp only [nPts_rect]
theorem o_whole (c : Dev nD) (h : Fin 2) (f : Buf (Elt F) ((c : Thread nD τ).loc cc0_stg3_0)) :
    (((c : Thread nD τ).loc cc0_stg3_0) ↦{fullShare} f : sProp 𝕄)
      = iprop((bigSep Finset.univ fun k : Fin 8 => oPts c h k f) ∗ bigSep Finset.univ fun k : Fin 8 => oPts c (oth h) k f) := by
  rw [Ring.pointsTo_blocks (ℓ := (c : Thread nD τ).loc cc0_stg3_0) (fun b : Fin 2 × Fin 8 => (pRect b.1 b.2).set) pRect_disjoint pRect_cover f, bigSep_univ_prod, bigSep_halves h]
  simp only [oPts_rect]

/-- Pieces held at one contents are pieces held at some. -/
theorem n_some (c : Dev nD) (h : Fin 2) (f : Buf (Elt F) ((c : Thread nD τ).loc cc0_scratch1)) :
    (bigSep Finset.univ fun k : Fin 8 => nPts (F := F) c fullShare h k f) ⊢ bigSep Finset.univ fun k : Fin 8 => iprop(∃ f, nPts c fullShare h k f) :=
  bigSep_mono fun k _ => by show (_ : sProp 𝕄) ⊢ _; iintro H; iexists f; iexact H
theorem o_some (c : Dev nD) (h : Fin 2) (f : Buf (Elt F) ((c : Thread nD τ).loc cc0_stg3_0)) :
    (bigSep Finset.univ fun k : Fin 8 => oPts (F := F) c h k f) ⊢ bigSep Finset.univ fun k : Fin 8 => iprop(∃ f, oPts c h k f) :=
  bigSep_mono fun k _ => by show (_ : sProp 𝕄) ⊢ _; iintro H; iexists f; iexact H

/-- The send buffer, at any contents, as eight pieces; and back. -/
theorem s_split (c : Dev nD) (f : Buf (Elt F) ((c : Thread nD τ).loc cc0_scratch0)) :
    (((c : Thread nD τ).loc cc0_scratch0) ↦{fullShare} f : sProp 𝕄) ⊢ bigSep Finset.univ fun k : Fin 8 => iprop(∃ f, sPts c k f) := by
  rw [Ring.pointsTo_blocks (ℓ := (c : Thread nD τ).loc cc0_scratch0) (fun b : Fin 8 => (sRect b).set) sRect_disjoint sRect_cover f]
  exact bigSep_mono fun k _ => by rw [← sPts_rect]; show (_ : sProp 𝕄) ⊢ _; iintro H; iexists f; iexact H
theorem s_join (c : Dev nD) (f₀ : Buf (Elt F) ((c : Thread nD τ).loc cc0_scratch0)) :
    (bigSep Finset.univ fun k : Fin 8 => iprop(∃ f, sPts (F := F) c k f)) ⊢ iprop(∃ f, (((c : Thread nD τ).loc cc0_scratch0) ↦{fullShare} f)) := by
  simp only [sPts_rect]
  exact Ring.pointsTo_blocks_join_exists (ℓ := (c : Thread nD τ).loc cc0_scratch0) (fun b : Fin 8 => (sRect b).set) sRect_disjoint sRect_cover f₀

/-- The two half shares of the pieces of one half, joined. -/
theorem n_shares (c : Dev nD) (h : Fin 2) :
    iprop((bigSep Finset.univ fun k : Fin 8 => nPts c fullShare.left h k (nFin m ρ c)) ∗ bigSep Finset.univ fun k : Fin 8 => nPts c fullShare.right h k (nFin m ρ c))
      ⊢ bigSep Finset.univ fun k : Fin 8 => nPts c fullShare h k (nFin m ρ c) := by
  rw [← bigSep_sep']
  exact bigSep_mono fun k _ => by unfold nPts; exact (pointsTo_share (PosShare.mem_left_op_right fullShare)).2

end Cert.KernelIdeal.Exchange

end
-- ==== Proof.KernelIdeal.Phases.lean ====
/-
The four loops, and the whole body from what a device starts with to what it leaves.
-/
module

public import proofs.«01_k».proof.Proof.KernelIdeal.Split

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Ix → ℕ)

/-! ## A loop of eight steps -/

/-- One step, the resources of the other steps set aside. -/
theorem wp_step (c : Dev nD) {p : Prog (Eff F) PUnit} {q : PUnit → Prog (Eff F) PUnit} {P Q : sProp 𝕄} {Φ : PUnit → sProp 𝕄}
    (h : P ⊢ wp frame (wpE (defs₀ (F := F)) 𝒱₀ (c : Thread nD τ) none) Set.univ p (fun _ => Q)) : iprop(P ∗ (Q -∗ wp frame (wpE (defs₀ (F := F)) 𝒱₀ (c : Thread nD τ) none) Set.univ (q ⟨⟩) Φ)) ⊢ wp frame (wpE (defs₀ (F := F)) 𝒱₀ (c : Thread nD τ) none) Set.univ (p >>= q) Φ := by
  rw [wp_bind]
  iintro ⟨HP, Hk⟩
  ihave Hw := h $$ HP
  iapply (wp_wand _ _ _) $$ Hw
  iintro %a HQ
  iapply Hk; iexact HQ

theorem bigSep_eight (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- If every step `k` turns `A k` into `B k` and the state `C k` into `C (k + 1)`, the loop turns all the `A` into all the `B`. -/
theorem wp_eight (c : Dev nD) (f : Fin 8 → Prog (Eff F) PUnit) (A B : Fin 8 → sProp 𝕄) (C : ℕ → sProp 𝕄)
    (h : ∀ k : Fin 8, iprop(A k ∗ C k.val) ⊢ wp frame (wpE (defs₀ (F := F)) 𝒱₀ (c : Thread nD τ) none) Set.univ (f k) (fun _ => iprop(B k ∗ C (k.val + 1)))) :
    iprop(bigSep Finset.univ A ∗ C 0) ⊢ wp frame (wpE (defs₀ (F := F)) 𝒱₀ (c : Thread nD τ) none) Set.univ (eight f) (fun _ => iprop(bigSep Finset.univ B ∗ C 8)) := by
  have h' : ∀ (k : Fin 8) (n n' : ℕ), k.val = n → n + 1 = n' →
      (iprop(A k ∗ C n) ⊢ wp frame (wpE (defs₀ (F := F)) 𝒱₀ (c : Thread nD τ) none) Set.univ (f k) (fun _ => iprop(B k ∗ C n'))) := by
    rintro k n n' rfl rfl; exact h k
  unfold eight
  rw [bigSep_eight, bigSep_eight]
  iintro ⟨⟨A0, A1, A2, A3, A4, A5, A6, A7⟩, C⟩
  iapply (wp_step c (h' 0 0 1 rfl rfl)); isplitl [A0 C]; · isplitl [A0] <;> iassumption
  iintro ⟨B0, C⟩
  iapply (wp_step c (h' 1 1 2 rfl rfl)); isplitl [A1 C]; · isplitl [A1] <;> iassumption
  iintro ⟨B1, C⟩
  iapply (wp_step c (h' 2 2 3 rfl rfl)); isplitl [A2 C]; · isplitl [A2] <;> iassumption
  iintro ⟨B2, C⟩
  iapply (wp_step c (h' 3 3 4 rfl rfl)); isplitl [A3 C]; · isplitl [A3] <;> iassumption
  iintro ⟨B3, C⟩
  iapply (wp_step c (h' 4 4 5 rfl rfl)); isplitl [A4 C]; · isplitl [A4] <;> iassumption
  iintro ⟨B4, C⟩
  iapply (wp_step c (h' 5 5 6 rfl rfl)); isplitl [A5 C]; · isplitl [A5] <;> iassumption
  iintro ⟨B5, C⟩
  iapply (wp_step c (h' 6 6 7 rfl rfl)); isplitl [A6 C]; · isplitl [A6] <;> iassumption
  iintro ⟨B6, C⟩
  ihave Hw := (h' 7 7 8 rfl rfl) $$ [A7 C]
  · isplitl [A7] <;> iassumption
  iapply (wp_wand _ _ _) $$ Hw
  iintro %a ⟨B7, C⟩
  isplitr [C]
  · isplitl [B0]; · iexact B0
    isplitl [B1]; · iexact B1
    isplitl [B2]; · iexact B2
    isplitl [B3]; · iexact B3
    isplitl [B4]; · iexact B4
    isplitl [B5]; · iexact B5
    isplitl [B6] <;> iassumption
  · iexact C

/-! ## The four loops -/

/-- What every step may use: the records, the levels, the operands, and a debt. -/
def state (c : Dev nD) (O : Debt) : sProp 𝕄 :=
  iprop(records m ρ K ∗ levAts L lv ∗ ops m ρ c ∗ ∃ W : Waits sig Unit, owes (c : Thread nD τ) O W)

def AX (c : Dev nD) (k : Fin 8) : sProp 𝕄 :=
  iprop((∃ f, sPts c k f) ∗ (∃ f, nPts (nbr c) fullShare (hf c) k f) ∗ dutyTok ER (cell c 0 k) 0 false ∗ dutyTok ER (cell (nbr c) 1 k) 0 false)
def BX (c : Dev nD) (k : Fin 8) : sProp 𝕄 := cred (tallyAt (cell c 0 k) () N)

theorem loopX (c : Dev nD) : iprop(bigSep Finset.univ (AX c) ∗ state m ρ K c (remY c 0 + remX c 0))
    ⊢ wp frame (wpE (defs₀ (F := F)) 𝒱₀ (c : Thread nD τ) none) Set.univ (eight (phX c)) (fun _ => iprop(bigSep Finset.univ (BX c) ∗ state m ρ K c (remY c 0))) := by
  have h := wp_eight c (phX (F := F) c) (AX c) (BX c) (fun n => state m ρ K c (remY c 0 + remX c n)) fun k => by
    unfold AX BX state phX
    iintro ⟨⟨Hs, Hn, Ht0, Ht1⟩, #HR, #Hlev, Hops, ⟨%W, HO⟩⟩
    ihave Hw := (x_step m ρ K c (devX c k) k (devX_eq c k) _ (k0_off1_inb c k) (off1_eq c k) _ (k0_off2_inb c k) (k0_off2_wordsbf16 c k) (off2_eq c k) W) $$ [Hs Hn Ht0 Ht1 Hops HO]
    · isplitr; · iexact HR
      isplitl [Hops]; · iexact Hops
      isplitl [HO]; · iexact HO
      isplitl [Hs]; · iexact Hs
      isplitl [Hn]; · iexact Hn
      isplitl [Ht0] <;> iassumption
    iapply (wp_wand _ _ _) $$ Hw
    iintro %a ⟨Hops, HO, Hc⟩
    isplitl [Hc]; · iexact Hc
    isplitr; · iexact HR
    isplitr; · iexact Hlev
    isplitl [Hops]; · iexact Hops
    iexists W; iexact HO
  rw [remX_eight, add_zero] at h
  exact h

def AY (c : Dev nD) (k : Fin 8) : sProp 𝕄 :=
  iprop(cred (tallyAt (cell c 1 k) () N) ∗ atPos ER (cell c 1 k) 0 ∅ 0 ∗ (∃ f, nPts (ptr c) fullShare (hf c) k f)
    ∗ dutyTok ER (cell c 2 k) 0 false ∗ dutyTok ER (cell (ptr c) 3 k) 0 false ∗ ∃ f, oPts c (hf c) k f)
def BY (c : Dev nD) (k : Fin 8) : sProp 𝕄 :=
  iprop(semVal (cell c 1 k) 0 ∗ cred (tallyAt (cell c 2 k) () N) ∗ nPts c fullShare.right (hf c) k (nFin m ρ c) ∗ oPts c (hf c) k (oFin m ρ c))

theorem loopY (c : Dev nD) : iprop(bigSep Finset.univ (AY c) ∗ state m ρ K c (remY c 0))
    ⊢ wp frame (wpE (defs₀ (F := F)) 𝒱₀ (c : Thread nD τ) none) Set.univ (eight (phY c)) (fun _ => iprop(bigSep Finset.univ (BY m ρ c) ∗ state m ρ K c 0)) := by
  have h := wp_eight c (phY (F := F) c) (AY c) (BY m ρ c) (fun n => state m ρ K c (remY c n)) fun k => by
    unfold AY BY state phY
    iintro ⟨⟨Hcr, Hat, Hn, Ht2, Ht3, Ho⟩, #HR, #Hlev, Hops, ⟨%W, HO⟩⟩
    iapply (wp_step c (y_step m ρ K c (devY c k) k (devY_eq c k) _ (k0_off2_inb c k) (k0_off2_wordsbf16 c k) (off2_eq c k) W))
    isplitl [HO Hcr Hat Hn Ht2 Ht3]
    · isplitr; · iexact HR
      isplitr; · iexact Hlev
      isplitl [HO]; · iexact HO
      isplitl [Hcr]; · iexact Hcr
      isplitl [Hat]; · iexact Hat
      isplitl [Hn]; · iexact Hn
      isplitl [Ht2] <;> iassumption
    iintro ⟨HO, Hz, Hc, Hn⟩
    ihave Hw := (rows_step m ρ c (hf c) k fullShare.right _ (k0_off1_inb c k) (off1_eq c k) _ (k0_off3_inb c k) (off3_eq c k)) $$ [Hops Hn Ho]
    · isplitl [Hops]; · iexact Hops
      isplitl [Hn] <;> iassumption
    iapply (wp_wand _ _ _) $$ Hw
    iintro %a ⟨Hops, Hn, Ho⟩
    isplitl [Hz Hc Hn Ho]
    · isplitl [Hz]; · iexact Hz
      isplitl [Hc]; · iexact Hc
      isplitl [Hn] <;> iassumption
    isplitr; · iexact HR
    isplitr; · iexact Hlev
    isplitl [Hops]; · iexact Hops
    iexists _; iexact HO
  rw [remY_eight] at h
  exact h

def AZ (c : Dev nD) (k : Fin 8) : sProp 𝕄 :=
  iprop(cred (tallyAt (cell c 3 k) () N) ∗ atPos ER (cell c 3 k) 0 ∅ 0 ∗ ∃ f, oPts c (oth (hf c)) k f)
def BZ (c : Dev nD) (k : Fin 8) : sProp 𝕄 :=
  iprop(semVal (cell c 3 k) 0 ∗ nPts c fullShare (oth (hf c)) k (nFin m ρ c) ∗ oPts c (oth (hf c)) k (oFin m ρ c))

theorem loopZ (c : Dev nD) : iprop(bigSep Finset.univ (AZ c) ∗ state m ρ K c 0)
    ⊢ wp frame (wpE (defs₀ (F := F)) 𝒱₀ (c : Thread nD τ) none) Set.univ (eight (phZ c)) (fun _ => iprop(bigSep Finset.univ (BZ m ρ c) ∗ state m ρ K c 0)) :=
  wp_eight c (phZ (F := F) c) (AZ c) (BZ m ρ c) (fun _ => state m ρ K c 0) fun k => by
    unfold AZ BZ state phZ
    iintro ⟨⟨Hcr, Hat, Ho⟩, #HR, #Hlev, Hops, ⟨%W, HO⟩⟩
    iapply (wp_step c (z_step m ρ K c k _ (k0_off2_inb c k) (k0_off2_wordsbf16 c k) (off2_eq c k) W))
    isplitl [HO Hcr Hat]
    · isplitr; · iexact HR
      isplitl [HO]; · iexact HO
      isplitl [Hcr] <;> iassumption
    iintro ⟨HO, Hz, Hn⟩
    ihave Hw := (rows_step m ρ c (oth (hf c)) k fullShare _ (k0_off4_inb c k) (off4_eq c k) _ (k0_off5_inb c k) (off5_eq c k)) $$ [Hops Hn Ho]
    · isplitl [Hops]; · iexact Hops
      isplitl [Hn] <;> iassumption
    iapply (wp_wand _ _ _) $$ Hw
    iintro %a ⟨Hops, Hn, Ho⟩
    isplitl [Hz Hn Ho]
    · isplitl [Hz]; · iexact Hz
      isplitl [Hn] <;> iassumption
    isplitr; · iexact HR
    isplitr; · iexact Hlev
    isplitl [Hops]; · iexact Hops
    iexists _; iexact HO

def AW (c : Dev nD) (k : Fin 8) : sProp 𝕄 :=
  iprop((cred (tallyAt (cell c 0 k) () N) ∗ atPos ER (cell c 0 k) 0 ∅ 0) ∗ cred (tallyAt (cell c 2 k) () N) ∗ atPos ER (cell c 2 k) 0 ∅ 0)
def BW (c : Dev nD) (k : Fin 8) : sProp 𝕄 :=
  iprop(semVal (cell c 0 k) 0 ∗ semVal (cell c 2 k) 0 ∗ (∃ f, sPts c k f) ∗ nPts c fullShare.left (hf c) k (nFin m ρ c))

theorem loopW (c : Dev nD) : iprop(bigSep Finset.univ (AW c) ∗ state m ρ K c 0)
    ⊢ wp frame (wpE (defs₀ (F := F)) 𝒱₀ (c : Thread nD τ) none) Set.univ (eight (phW c)) (fun _ => iprop(bigSep Finset.univ (BW m ρ c) ∗ state m ρ K c 0)) :=
  wp_eight c (phW (F := F) c) (AW c) (BW m ρ c) (fun _ => state m ρ K c 0) fun k => by
    unfold AW BW state phW
    iintro ⟨⟨⟨Hcr0, Hat0⟩, Hcr2, Hat2⟩, #HR, #Hlev, Hops, ⟨%W, HO⟩⟩
    ihave Hw := (w_step m ρ K c k _ (k0_off2_inb c k) (k0_off2_wordsbf16 c k) (off2_eq c k) W) $$ [HO Hcr0 Hat0 Hcr2 Hat2]
    · isplitr; · iexact HR
      isplitl [HO]; · iexact HO
      isplitl [Hcr0]; · iexact Hcr0
      isplitl [Hat0]; · iexact Hat0
      isplitl [Hcr2] <;> iassumption
    iapply (wp_wand _ _ _) $$ Hw
    iintro %a ⟨HO, Hz0, Hz2, Hs, Hn⟩
    isplitl [Hz0 Hz2 Hs Hn]
    · isplitl [Hz0]; · iexact Hz0
      isplitl [Hz2]; · iexact Hz2
      isplitl [Hs] <;> iassumption
    isplitr; · iexact HR
    isplitr; · iexact Hlev
    isplitl [Hops]; · iexact Hops
    iexists _; iexact HO

/-! ## The whole body -/

/-- The positions device `c` holds, and the tokens of the duties it pays. -/
def poses (c : Dev nD) : sProp 𝕄 :=
  iprop(atPos ER (barCell c) 0 ∅ 0 ∗ bigSep Finset.univ fun qk : Fin 4 × Fin 8 => atPos ER (cell c qk.1 qk.2) 0 ∅ 0)
def payToks (c : Dev nD) : sProp 𝕄 :=
  iprop(dutyTok ER (barCell (nbr c)) 0 false ∗ dutyTok ER (barCell (ptr c)) 0 true
    ∗ (bigSep Finset.univ fun k : Fin 8 => dutyTok ER (cell c 0 k) 0 false) ∗ (bigSep Finset.univ fun k : Fin 8 => dutyTok ER (cell (nbr c) 1 k) 0 false)
    ∗ (bigSep Finset.univ fun k : Fin 8 => dutyTok ER (cell c 2 k) 0 false) ∗ (bigSep Finset.univ fun k : Fin 8 => dutyTok ER (cell (ptr c) 3 k) 0 false))
/-- The credits of launch: the barrier's two units and the sixteen arrivals. -/
def creds (c : Dev nD) : sProp 𝕄 :=
  iprop(cred (tallyAt (barCell c) () 2) ∗ (bigSep Finset.univ fun k : Fin 8 => cred (tallyAt (cell c 1 k) () N))
    ∗ bigSep Finset.univ fun k : Fin 8 => cred (tallyAt (cell c 3 k) () N))

/-- What the body starts with, and what it leaves: the result, the buffers, every own counter at zero. -/
def pre (c : Dev nD) : sProp 𝕄 :=
  iprop(records m ρ K ∗ levAts L lv ∗ poses c ∗ payToks c ∗ creds c
    ∗ (∃ f, (((c : Thread nD τ).loc cc0_scratch0) ↦{fullShare} f)) ∗ (∃ f, (((c : Thread nD τ).loc cc0_scratch1) ↦{fullShare} f))
    ∗ ops m ρ c ∗ (∃ f, (((c : Thread nD τ).loc cc0_stg3_0) ↦{fullShare} f)) ∗ ∃ W : Waits sig Unit, owes (c : Thread nD τ) (O₀ c) W)
def post (c : Dev nD) : sProp 𝕄 :=
  iprop((∃ f, (((c : Thread nD τ).loc cc0_scratch0) ↦{fullShare} f)) ∗ (∃ f, (((c : Thread nD τ).loc cc0_scratch1) ↦{fullShare} f))
    ∗ (semVal (barCell c) 0 ∗ bigSep Finset.univ fun qk : Fin 4 × Fin 8 => semVal (cell c qk.1 qk.2) 0)
    ∗ ops m ρ c ∗ (((c : Thread nD τ).loc cc0_stg3_0) ↦{fullShare} oFin m ρ c) ∗ ∃ W : Waits sig Unit, owes (c : Thread nD τ) 0 W)

theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem body_wp (c : Dev nD) : pre m ρ K c ⊢ wp frame (wpE (defs₀ (F := F)) 𝒱₀ (c : Thread nD τ) none) Set.univ (body (F := F)) (fun _ => post m ρ c) := by
  unfold body
  simp only [semSignalWord, semWaitWord, Prog.lift, Prog.bind_op, Prog.bind_ret, Prog.pure_eq_ret, wp_deviceId]
  unfold pre poses payToks creds
  rw [bigSep_univ_prod, bigSep_four]
  iintro ⟨#HR, #Hlev, ⟨HatB, Hat0, Hat1, Hat2, Hat3⟩, ⟨HtBN, HtBP, Ht0, Ht1, Ht2, Ht3⟩, ⟨HcB, Hc1, Hc3⟩, ⟨%fs, Hs⟩, ⟨%fn, Hn⟩, Hops, ⟨%fo, Ho⟩, ⟨%W, HO⟩⟩
  simp only [dev1_eq c, dev2_eq c]
  ihave Hs := (s_split c fs) $$ Hs
  ihave Hn := (Entails.of_eq (n_whole c (hf c) fn)) $$ Hn
  icases Hn with ⟨Hnx, Hny⟩
  ihave Ho := (Entails.of_eq (o_whole c (hf c) fo)) $$ Ho
  icases Ho with ⟨Hox, Hoy⟩
  -- the signal to the peer along x, with the half that the peer fills
  iapply (Rounds.wp_signal 𝒱₀ ER (Rd m ρ) (c : Thread nD τ) none (dst := (nbr c : Thread nD τ)) (κ := K (nbr c, .inl ()))
      (d := false) (by rw [duties_bar]; exact Finset.mem_univ _) ((amount_bar m ρ (nbr c) false).trans (by decide)) () (O₁ c) rfl)
    $$ [HO HtBN Hnx]
  · isplitr; · iapply (inv_bar m ρ K (nbr c)); iexact HR
    isplitl [HO]; · iexact HO
    isplitl [HtBN]; · iexact HtBN
    isplitl [Hnx]
    · rw [payload_bar]; unfold barPay
      rw [if_neg Bool.false_ne_true, nbr_nbr, hf_nbr]
      iapply (n_some c (hf c) fn); iexact Hnx
    iapply (reached_bar m ρ K (nbr c)); iexact HR
  iintro HO
  unfold O₁
  -- the signal to the peer along y, with the other half
  iapply (Rounds.wp_signal 𝒱₀ ER (Rd m ρ) (c : Thread nD τ) none (dst := (ptr c : Thread nD τ)) (κ := K (ptr c, .inl ()))
      (d := true) (by rw [duties_bar]; exact Finset.mem_univ _) ((amount_bar m ρ (ptr c) true).trans (by decide)) () (remY c 0 + remX c 0) rfl)
    $$ [HO HtBP Hny]
  · isplitr; · iapply (inv_bar m ρ K (ptr c)); iexact HR
    isplitl [HO]; · iexact HO
    isplitl [HtBP]; · iexact HtBP
    isplitl [Hny]
    · rw [payload_bar]; unfold barPay
      rw [if_pos rfl, ptr_ptr, hf_ptr]
      iapply (n_some c (oth (hf c)) fn); iexact Hny
    iapply (reached_bar m ρ K (ptr c)); iexact HR
  iintro HO
  -- the wait for both peers: each hands over the half of its landing buffer that this device fills
  iapply (Rounds.wp_wait_rest_token 𝒱₀ ER (Rd m ρ) (c : Thread nD τ) none (κ := K (c, .inl ()))
      (wpE_semWait_eq 𝒱₀ (c : Thread nD τ) none Set.univ) (Set.mem_univ _) () (O := remY c 0 + remX c 0) (W := W) (R := 0) (m := 0) (T := ∅)
      (by rw [expect_bar]; decide)) $$ [HcB HO HatB]
  · isplitr; · iapply (inv_bar m ρ K c); iexact HR
    isplitl [HcB]; · iexact HcB
    isplitl [HO]; · iexact HO
    isplitr
    · iapply (mayWait c (.reg barS) (remY c 0 + remX c 0) 1 (le_of_eq (lv_bar c)) (above_add (above_remY c 0 (by decide)) (above_remX c 0 (by decide))))
      iexact Hlev
    iexact HatB
  iintro ⟨HO, HatB, -, Hpay⟩
  ihave Hp := (Entails.of_eq (rest_bar m ρ c)) $$ Hpay
  unfold barPay
  rw [if_neg Bool.false_ne_true, if_pos rfl]
  icases Hp with ⟨HnN, HnP⟩
  imod (Rounds.cell_close ER (Rd m ρ) (Set.mem_univ (K (c, .inl ()))) (fun h => h) (R := 0 + 1) (duties_later m ρ (barCell c))) $$ [HatB] with HzB
  · isplitr; · iapply (inv_bar m ρ K c); iexact HR
    iexact HatB
  -- along x
  iapply (wp_step c (loopX m ρ K c))
  isplitl [Hs HnN Ht0 Ht1 Hops HO]
  · isplitl [Hs HnN Ht0 Ht1]
    · unfold AX; simp only [bigSep_sep']
      isplitl [Hs]; · iexact Hs
      isplitl [HnN]; · iexact HnN
      isplitl [Ht0] <;> iassumption
    · unfold state
      isplitr; · iexact HR
      isplitr; · iexact Hlev
      isplitl [Hops]; · iexact Hops
      iexists _; iexact HO
  iintro ⟨HX, HC⟩
  -- along y
  iapply (wp_step c (loopY m ρ K c))
  isplitl [HC Hc1 Hat1 HnP Ht2 Ht3 Hox]
  · isplitr [HC]
    · unfold AY; simp only [bigSep_sep']
      isplitl [Hc1]; · iexact Hc1
      isplitl [Hat1]; · iexact Hat1
      isplitl [HnP]; · iexact HnP
      isplitl [Ht2]; · iexact Ht2
      isplitl [Ht3]; · iexact Ht3
      iapply (o_some c (hf c) fo); iexact Hox
    · iexact HC
  iintro ⟨HY, HC⟩
  -- the half passed on by the peer along y
  iapply (wp_step c (loopZ m ρ K c))
  isplitl [HC Hc3 Hat3 Hoy]
  · isplitr [HC]
    · unfold AZ; simp only [bigSep_sep']
      isplitl [Hc3]; · iexact Hc3
      isplitl [Hat3]; · iexact Hat3
      iapply (o_some c (oth (hf c)) fo); iexact Hoy
    · iexact HC
  iintro ⟨HZ, HC⟩
  unfold BY BZ
  simp only [bigSep_sep']
  icases HY with ⟨Hz1, Hc2, Hnr, Hox⟩
  icases HZ with ⟨Hz3, Hny, Hoy⟩
  -- the departures
  ihave Hw := (loopW m ρ K c) $$ [HC HX Hat0 Hc2 Hat2]
  · isplitr [HC]
    · unfold AW BX; simp only [bigSep_sep']
      isplitl [HX Hat0]
      · isplitl [HX] <;> iassumption
      · isplitl [Hc2] <;> iassumption
    · iexact HC
  iapply (wp_wand _ _ _) $$ Hw
  unfold BW state
  simp only [bigSep_sep']
  iintro %a ⟨⟨Hz0, Hz2, Hs, Hnl⟩, -, -, Hops, HO⟩
  unfold post
  isplitl [Hs]; · iapply (s_join c (m ((c : Thread nD τ).loc cc0_scratch0))); iexact Hs
  isplitl [Hnl Hnr Hny]
  · iexists (nFin m ρ c)
    rw [n_whole c (hf c)]
    isplitl [Hnl Hnr]
    · iapply (n_shares m ρ c (hf c)); isplitl [Hnl] <;> iassumption
    · iexact Hny
  isplitl [HzB Hz0 Hz1 Hz2 Hz3]
  · isplitl [HzB]; · iexact HzB
    rw [bigSep_univ_prod, bigSep_four]
    isplitl [Hz0]; · iexact Hz0
    isplitl [Hz1]; · iexact Hz1
    isplitl [Hz2] <;> iassumption
  isplitl [Hops]; · iexact Hops
  isplitl [Hox Hoy]
  · rw [o_whole c (hf c)]
    isplitl [Hox] <;> iassumption
  iexact HO

end Cert.KernelIdeal.Exchange

end
-- ==== Proof.KernelIdeal.Deal.lean ====
/-
How the launch deals the exchange out: every cell's invariant, each device's positions, the tokens of the duties each
device pays (its own departures, its peers' barriers and arrivals), and the credits that the debts of all devices make.
-/
module

public import proofs.«01_k».proof.Proof.KernelIdeal.Phases

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The kernel's own semaphores: the four families of eight. -/
abbrev osem (qk : Fin 4 × Fin 8) : SemLoc sig := .dma (dsem qk.1 qk.2)

theorem osem_injective : Function.Injective osem := by decide +kernel
theorem ownSemFacts : Pipeline.OwnSemFacts cfg0.spec osem := by decide +kernel

theorem semOf_injective : Function.Injective semOf := by
  rintro (⟨⟩ | a) (⟨⟩ | b) h
  · rfl
  · exact absurd h (by intro h; cases h)
  · exact absurd h (by intro h; cases h)
  · exact congrArg Sum.inr (osem_injective h)
theorem kcell_injective : Function.Injective (kcell : Dev nD × Ix → GSem nD τ sig) := by
  rintro ⟨c, k⟩ ⟨c', k'⟩ h
  have h1 : c = c' := congrArg (fun g : GSem nD τ sig => g.1.1) h
  have h2 : k = k' := semOf_injective (congrArg Prod.snd h)
  rw [h1, h2]
def cells : Finset (GSem nD τ sig) := Finset.univ.map ⟨kcell, kcell_injective⟩

/-- The duties of a device's own cells: its barrier's two, and one of each of its transfers' cells. -/
abbrev tokOf (cj : Dev nD × (Bool ⊕ (Fin 4 × Fin 8))) : GSem nD τ sig × ℕ × Bool := match cj.2 with
  | .inl b => (barCell cj.1, 0, b)
  | .inr qk => (cell cj.1 qk.1 qk.2, 0, false)
theorem tokOf_injective : Function.Injective tokOf := by
  rintro ⟨c, b | a⟩ ⟨c', b' | a'⟩ h
  · have h1 : c = c' := congrArg (fun x : GSem nD τ sig × ℕ × Bool => x.1.1.1) h
    have h2 : b = b' := congrArg (fun x : GSem nD τ sig × ℕ × Bool => x.2.2) h
    rw [h1, h2]
  · exact absurd (congrArg (fun x : GSem nD τ sig × ℕ × Bool => x.1.2) h) (by intro h; cases h)
  · exact absurd (congrArg (fun x : GSem nD τ sig × ℕ × Bool => x.1.2) h) (by intro h; cases h)
  · have h1 : c = c' := congrArg (fun x : GSem nD τ sig × ℕ × Bool => x.1.1.1) h
    have h2 : a = a' := osem_injective (congrArg (fun x : GSem nD τ sig × ℕ × Bool => x.1.2) h)
    rw [h1, h2]
def toksAll : Finset (GSem nD τ sig × ℕ × Bool) := Finset.univ.map ⟨tokOf, tokOf_injective⟩

def u₀ : UU := (initOf (Pipeline.cells cfgs cellOf_inj) (Pipeline.launchToks cfgs cellOf_inj), initOf cells toksAll)

/-- A conjunction over a device's cells: the barrier's, and the transfers'. -/
theorem bigSep_ix (Φ : Ix → sProp 𝕄) : bigSep Finset.univ Φ = iprop(Φ (.inl ()) ∗ bigSep Finset.univ fun qk : Fin 4 × Fin 8 => Φ (.inr qk)) := by
  rw [bigSep_univ_sum, bigSep_univ_of_subsingleton ()]; rfl
theorem bigSep_bool (Φ : Bool → sProp 𝕄) : bigSep Finset.univ Φ = iprop(Φ false ∗ Φ true) :=
  bigSep_univ_eq_bigSepL [false, true] (by decide) (by decide) Φ

/-- The tokens of device `c`'s own cells. -/
def toks (c : Dev nD) : sProp 𝕄 :=
  iprop((dutyTok ER (barCell c) 0 false ∗ dutyTok ER (barCell c) 0 true)
    ∗ (bigSep Finset.univ fun k : Fin 8 => dutyTok ER (cell c 0 k) 0 false) ∗ (bigSep Finset.univ fun k : Fin 8 => dutyTok ER (cell c 1 k) 0 false)
    ∗ (bigSep Finset.univ fun k : Fin 8 => dutyTok ER (cell c 2 k) 0 false) ∗ (bigSep Finset.univ fun k : Fin 8 => dutyTok ER (cell c 3 k) 0 false))

/-- What the launch element deals device `c`. -/
def G (c : Dev nD) : sProp 𝕄 :=
  iprop((bigSep Finset.univ fun i : Ix => roundState ER (Rd m ρ) (kcell (c, i)) 0)
    ∗ (bigSep Finset.univ fun i : Ix => iprop(atPos ER (kcell (c, i)) 0 ∅ 0 ∗ reached ER (kcell (c, i)) 0)) ∗ toks c)
/-- What the body starts from, of it. -/
def G' (c : Dev nD) : sProp 𝕄 := iprop(∃ K, records m ρ K ∗ poses c ∗ payToks c)

theorem fund_all : BI.own (ER (initOf cells toksAll)) ⊢ (|==> bigSep Finset.univ (G m ρ) : sProp 𝕄) := by
  have hX (Φ : GSem nD τ sig → sProp 𝕄) : bigSep cells Φ = bigSep Finset.univ fun c : Dev nD => bigSep Finset.univ fun i : Ix => Φ (kcell (c, i)) := by
    unfold cells; rw [bigSep_map, bigSep_univ_prod]; rfl
  have hT : bigSep toksAll (fun x => (dutyTok ER x.1 x.2.1 x.2.2 : sProp 𝕄)) = bigSep Finset.univ fun c : Dev nD => toks c := by
    unfold toksAll; rw [bigSep_map, bigSep_univ_prod]
    refine bigSep_congr fun c _ => ?_
    unfold toks
    rw [bigSep_univ_sum, bigSep_bool, bigSep_univ_prod, bigSep_four]; rfl
  iintro HX
  imod (Rounds.fund ER (Rd m ρ) cells toksAll) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem unscopedSems0_eq (c : Dev nD) : (unscopedSems0 c : sProp 𝕄) = semVal (barCell c) 0 := by
  unfold unscopedSems0; rw [bigSep_eq_bigSepL_of_eq [SemLoc.reg barS] (by decide +kernel) (by decide +kernel)]; rfl
theorem ownSems0_eq (c : Dev nD) : (Pipeline.ownSems0 (Ix := Unit) (Name := ℕ) (U := UU) (Lvl := ℕ) (Val := Elt F) (τ := τ) osem c : sProp 𝕄)
    = bigSep Finset.univ fun qk : Fin 4 × Fin 8 => semVal (cell c qk.1 qk.2) 0 := rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i : Ix => iprop(∃ κ : ℕ, cellInv ER (Rd m ρ) κ (kcell (c, i))))
          ∗ (bigSep Finset.univ fun i : Ix => iprop(atPos ER (kcell (c, i)) 0 ∅ 0 ∗ reached ER (kcell (c, i)) 0)) ∗ toks c) := by
  rw [ownSems0_eq, unscopedSems0_eq]
  unfold G
  iintro ⟨Hos, Hus, Hst, Hat, Htok⟩
  imod (show iprop((bigSep Finset.univ fun i : Ix => semVal (kcell (c, i)) 0) ∗ bigSep Finset.univ fun i : Ix => roundState ER (Rd m ρ) (kcell (c, i)) 0)
      ⊢ (|={Set.univ}=> bigSep Finset.univ fun i : Ix => iprop(∃ κ : ℕ, cellInv ER (Rd m ρ) κ (kcell (c, i))) : sProp 𝕄) from by
        rw [← bigSep_sep']
        exact (bigSep_mono fun i _ => (Rounds.body_intro ER (Rd m ρ) (kcell (c, i))).trans inv_alloc).trans (bigSep_fupd _ _)) $$ [Hos Hus Hst] with Hinv
  · isplitl [Hos Hus]
    · rw [bigSep_ix (fun i : Ix => (semVal (kcell (c, i)) 0 : sProp 𝕄))]
      isplitl [Hus]; · iexact Hus
      iexact Hos
    · iexact Hst
  imodintro
  isplitl [Hinv]; · iexact Hinv
  isplitl [Hat]; · iexact Hat
  iexact Htok

/-- The tokens go to the devices that pay: a barrier's and an arrival's to the peer. -/
theorem toks_around : (bigSep Finset.univ fun c : Dev nD => (toks c : sProp 𝕄)) ⊢ bigSep Finset.univ fun c : Dev nD => payToks c := by
  unfold toks payToks
  simp only [bigSep_sep']
  rw [bigSep_univ_equiv nbrE (fun c : Dev nD => (dutyTok ER (barCell c) 0 false : sProp 𝕄)),
    bigSep_univ_equiv ptrE (fun c : Dev nD => (dutyTok ER (barCell c) 0 true : sProp 𝕄)),
    bigSep_univ_equiv nbrE (fun c : Dev nD => bigSep Finset.univ fun k : Fin 8 => (dutyTok ER (cell c 1 k) 0 false : sProp 𝕄)),
    bigSep_univ_equiv ptrE (fun c : Dev nD => bigSep Finset.univ fun k : Fin 8 => (dutyTok ER (cell c 3 k) 0 false : sProp 𝕄))]
  iintro ⟨⟨HN, HP⟩, H0, H1, H2, H3⟩
  isplitl [HN]; · iexact HN
  isplitl [HP]; · iexact HP
  isplitl [H0]; · iexact H0
  isplitl [H1]; · iexact H1
  isplitl [H2]; · iexact H2
  iexact H3

theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem poses_eq (c : Dev nD) : (poses c : sProp 𝕄) = bigSep Finset.univ fun i : Ix => atPos ER (kcell (c, i)) 0 ∅ 0 := by
  unfold poses; rw [bigSep_ix]; rfl

theorem regroup :
    (bigSep Finset.univ fun c : Dev nD => iprop((bigSep Finset.univ fun i : Ix => iprop(∃ κ : ℕ, cellInv ER (Rd m ρ) κ (kcell (c, i))))
          ∗ (bigSep Finset.univ fun i : Ix => iprop(atPos ER (kcell (c, i)) 0 ∅ 0 ∗ reached ER (kcell (c, i)) 0)) ∗ toks c) : sProp 𝕄)
      ⊢ bigSep Finset.univ (G' m ρ) := by
  rw [bigSep_sep', bigSep_sep', ← bigSep_univ_prod (fun ci : Dev nD × Ix => iprop(∃ κ : ℕ, cellInv ER (Rd m ρ) κ (kcell ci))),
    bigSep_congr (s := Finset.univ) (fun (c : Dev nD) _ => bigSep_sep' Finset.univ (fun i : Ix => (atPos ER (kcell (c, i)) 0 ∅ 0 : sProp 𝕄)) (fun i => reached ER (kcell (c, i)) 0)),
    bigSep_sep', ← bigSep_univ_prod (fun ci : Dev nD × Ix => (reached ER (kcell ci) 0 : sProp 𝕄))]
  iintro ⟨HI, ⟨Hat, #HR⟩, Htok⟩
  ihave HK := (BI.bigSep_exists_pi Finset.univ (fun (ci : Dev nD × Ix) (κ : ℕ) => (cellInv ER (Rd m ρ) κ (kcell ci) : sProp 𝕄))) $$ HI
  icases HK with ⟨%K, #HI⟩
  ihave Htk := (toks_around (F := F)) $$ Htok
  iapply (bigSep_with (S := Finset.univ) (R := records m ρ K) (Φ := fun c => iprop(poses c ∗ payToks c)) (Ψ := G' m ρ) fun c _ => by
    show (_ : sProp 𝕄) ⊢ _
    unfold G'; iintro ⟨HR, Hp, Ht⟩; iexists K
    isplitl [HR]; · iexact HR
    isplitl [Hp] <;> iassumption)
  isplitr
  · unfold records; isplitl; · iexact HI
    iexact HR
  · rw [bigSep_sep']
    isplitl [Hat]
    · rw [bigSep_congr (s := Finset.univ) fun (c : Dev nD) _ => poses_eq c]
      iexact Hat
    · iexact Htk

/-- The global step at launch: every cell of every device is opened, the invariants shared, the tokens dealt. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem cell_eq {a b : Dev nD} {q q' : Fin 4} {k k' : Fin 8} (h : cell a q k = cell b q' k') : a = b ∧ q = q' ∧ k = k' := by
  have h1 : a = b := congrArg (fun g : GSem nD τ sig => g.1.1) h
  have h2 : (q, k) = (q', k') := osem_injective (congrArg Prod.snd h)
  exact ⟨h1, congrArg Prod.fst h2, congrArg Prod.snd h2⟩
theorem bar_eq {a b : Dev nD} (h : barCell a = barCell b) : a = b := congrArg (fun g : GSem nD τ sig => g.1.1) h
theorem bar_ne (a b : Dev nD) (q : Fin 4) (k : Fin 8) : barCell a ≠ cell b q k := fun h => by
  have h2 := congrArg Prod.snd h; cases h2

/-- What the arrivals that `d` owes along one peer come to at one cell. -/
theorem rem_at (e : Dev nD) (q q' : Fin 4) (c : Dev nD) (k : Fin 8) :
    (∑ j ∈ Finset.univ.filter (fun j : Fin 8 => 0 ≤ j.val), (tallyAt (cell e q j) () N : Debt)) (cell c q' k) () = if e = c ∧ q = q' then N else 0 := by
  rw [Finset.filter_true_of_mem (fun j _ => Nat.zero_le _), Finset.sum_apply, Finsupp.finset_sum_apply]
  by_cases h : e = c ∧ q = q'
  · obtain ⟨rfl, rfl⟩ := h
    rw [if_pos ⟨rfl, rfl⟩, Finset.sum_eq_single k]
    · rw [tallyAt_apply, if_pos ⟨rfl, rfl⟩]
    · intro j _ hj
      rw [tallyAt_apply, if_neg fun h => hj (cell_eq h.1).2.2.symm]
    · intro hk; exact absurd (Finset.mem_univ k) hk
  · rw [if_neg h]
    refine Finset.sum_eq_zero fun j _ => ?_
    rw [tallyAt_apply, if_neg fun h' => h ⟨(cell_eq h'.1).1.symm, (cell_eq h'.1).2.1.symm⟩]
theorem rem_bar (e : Dev nD) (q : Fin 4) (c : Dev nD) (n : ℕ) :
    (∑ j ∈ Finset.univ.filter (fun j : Fin 8 => n ≤ j.val), (tallyAt (cell e q j) () N : Debt)) (barCell c) () = 0 := by
  rw [Finset.sum_apply, Finsupp.finset_sum_apply]
  refine Finset.sum_eq_zero fun j _ => ?_
  rw [tallyAt_apply, if_neg fun h => bar_ne c e q j h.1]

theorem owed_bar (d c : Dev nD) : O₀ d (barCell c) () = (if d = ptr c then 1 else 0) + (if d = nbr c then 1 else 0) := by
  unfold O₀ O₁ remX remY
  simp only [Pi.add_apply, Finsupp.add_apply]
  rw [rem_bar, rem_bar, Nat.add_zero, Nat.zero_add, tallyAt_apply, tallyAt_apply]
  congr 1
  · by_cases h : d = ptr c
    · subst h; rw [ptr_ptr, if_pos ⟨rfl, rfl⟩, if_pos rfl]
    · rw [if_neg (fun h' => h (by rw [bar_eq h'.1, ptr_ptr])), if_neg h]
  · by_cases h : d = nbr c
    · subst h; rw [nbr_nbr, if_pos ⟨rfl, rfl⟩, if_pos rfl]
    · rw [if_neg (fun h' => h (by rw [bar_eq h'.1, nbr_nbr])), if_neg h]
theorem owed_cell (d c : Dev nD) (q : Fin 4) (k : Fin 8) :
    O₀ d (cell c q k) () = (if d = ptr c ∧ (3 : Fin 4) = q then N else 0) + (if d = nbr c ∧ (1 : Fin 4) = q then N else 0) := by
  unfold O₀ O₁ remX remY
  simp only [Pi.add_apply, Finsupp.add_apply]
  have hb : ∀ e : Dev nD, (tallyAt (barCell e) () 1 : Debt) (cell c q k) () = 0 := fun e => by
    rw [tallyAt_apply, if_neg fun h => bar_ne e c q k h.1.symm]
  rw [rem_at, rem_at, hb, hb, Nat.add_zero]
  have e1 : (ptr d = c) = (d = ptr c) := propext ⟨fun h => by rw [← h, ptr_ptr], fun h => by rw [h, ptr_ptr]⟩
  have e2 : (nbr d = c) = (d = nbr c) := propext ⟨fun h => by rw [← h, nbr_nbr], fun h => by rw [h, nbr_nbr]⟩
  simp only [e1, e2]

theorem launch_bar (c : Dev nD) :
    tallyOn (barCell c) (launchCredit (Pipeline.owing O₀) 0 (barCell c)) = (tallyAt (barCell c) () 2 : Debt) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (ptr c) fun _ => 1, Finset.sum_ite_eq' Finset.univ (nbr c) fun _ => 1, if_pos (Finset.mem_univ _), if_pos (Finset.mem_univ _)]
theorem launch_x (c : Dev nD) (k : Fin 8) :
    tallyOn (cell c 1 k) (launchCredit (Pipeline.owing O₀) 0 (cell c 1 k)) = (tallyAt (cell c 1 k) () N : Debt) := by
  unfold tallyAt; refine congrArg _ (Finsupp.ext fun u => ?_); cases u
  rw [Pipeline.launchCredit_owing, Finsupp.single_eq_same, Finset.sum_congr rfl fun d _ => (owed_cell d c 1 k).trans (by
      rw [if_neg fun h => absurd h.2 (by decide), Nat.zero_add]
      exact if_congr (and_iff_left rfl) rfl rfl : _ = if d = nbr c then N else 0),
    Finset.sum_ite_eq' Finset.univ (nbr c) fun _ => N, if_pos (Finset.mem_univ _)]
theorem launch_y (c : Dev nD) (k : Fin 8) :
    tallyOn (cell c 3 k) (launchCredit (Pipeline.owing O₀) 0 (cell c 3 k)) = (tallyAt (cell c 3 k) () N : Debt) := by
  unfold tallyAt; refine congrArg _ (Finsupp.ext fun u => ?_); cases u
  rw [Pipeline.launchCredit_owing, Finsupp.single_eq_same, Finset.sum_congr rfl fun d _ => (owed_cell d c 3 k).trans (by
      rw [if_neg (c := d = nbr c ∧ _) fun h => absurd h.2 (by decide), Nat.add_zero]
      exact if_congr (and_iff_left rfl) rfl rfl : _ = if d = ptr c then N else 0),
    Finset.sum_ite_eq' Finset.univ (ptr c) fun _ => N, if_pos (Finset.mem_univ _)]

/-- A family of semaphores picked out of the conjunction over all of a device's. -/
theorem bigSep_pick {I J : Type} [Fintype I] [DecidableEq I] [Fintype J] [DecidableEq J] (f : J → I) (hf : Function.Injective f) (S : Finset I) (hS : ∀ j, f j ∈ S) (Φ : I → sProp 𝕄) :
    bigSep S Φ ⊢ bigSep Finset.univ fun j => Φ (f j) := by
  rw [show (bigSep Finset.univ fun j => Φ (f j)) = bigSep (Finset.univ.map ⟨f, hf⟩) Φ from (bigSep_map ⟨f, hf⟩).symm]
  refine bigSep_subset fun i hi => ?_
  obtain ⟨j, -, rfl⟩ := Finset.mem_map.mp hi
  exact hS j

/-- The credit cells in one list: the barrier, the arrivals x, the arrivals y. -/
abbrev credIx : Type := Unit ⊕ (Fin 8 ⊕ Fin 8)
def credSem : credIx → SemLoc sig
  | .inl _ => .reg barS
  | .inr (.inl k) => .dma (dsem 1 k)
  | .inr (.inr k) => .dma (dsem 3 k)
theorem credSem_injective : Function.Injective credSem := by
  have key : ∀ (q q' : Fin 4) (k k' : Fin 8), (SemLoc.dma (dsem q k) : SemLoc sig) = .dma (dsem q' k') → (q, k) = (q', k') :=
    fun q q' k k' h => osem_injective h
  rintro (⟨⟩ | k | k) (⟨⟩ | k' | k') h
  · rfl
  · exact absurd h (by intro h; cases h)
  · exact absurd h (by intro h; cases h)
  · exact absurd h (by intro h; cases h)
  · exact congrArg (fun x : Fin 4 × Fin 8 => (Sum.inr (Sum.inl x.2) : credIx)) (key 1 1 k k' h)
  · exact absurd (show (1 : Fin 4) = 3 from congrArg Prod.fst (key 1 3 k k' h)) (by decide)
  · exact absurd h (by intro h; cases h)
  · exact absurd (show (3 : Fin 4) = 1 from congrArg Prod.fst (key 3 1 k k' h)) (by decide)
  · exact congrArg (fun x : Fin 4 × Fin 8 => (Sum.inr (Sum.inr x.2) : credIx)) (key 3 3 k k' h)

theorem creds_intro (c : Dev nD) : (Pipeline.launchCred O₀ c : sProp 𝕄) ⊢ creds c := by
  unfold Pipeline.launchCred creds
  refine (bigSep_pick credSem credSem_injective _ (fun _ => Finset.mem_univ _) _).trans (Entails.of_eq ?_)
  rw [bigSep_univ_sum, bigSep_univ_sum, bigSep_univ_of_subsingleton ()]
  show BI.sep _ (BI.sep _ _) = _
  refine congrArg₂ _ ?_ (congrArg₂ _ (bigSep_congr fun k _ => ?_) (bigSep_congr fun k _ => ?_))
  · exact congrArg cred (launch_bar c)
  · exact congrArg cred (launch_x c k)
  · exact congrArg cred (launch_y c k)

end Cert.KernelIdeal.Exchange

end
-- ==== Proof.KernelIdeal.Run.lean ====
/-
One run of the exchange on every device: the staging of the four operands around the body, and the theorem that every
execution ends with the result arrays at the assembled contents, the arguments unchanged and every counter at zero.
-/
module

public import proofs.«01_k».proof.Proof.KernelIdeal.Deal
public import proofs.«01_k».proof.Proof.Gen.KernelIdeal.Points
public import Idealize.ShloMosaic.Lib.Pipeline.CollectiveSegs

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What device `c`'s body starts from, apart from its buffers. -/
def start (c : Dev nD) : sProp 𝕄 := iprop(G' m ρ c ∗ creds c ∗ levAts L lv)
/-- The two scratch buffers, at any contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))
def Φ₀ (c : Dev nD) : sProp 𝕄 := iprop(start m ρ c ∗ scratch c)
def Φ₁ (c : Dev nD) : sProp 𝕄 :=
  iprop(scratch c ∗ semVal (barCell c) 0 ∗ bigSep Finset.univ fun qk : Fin 4 × Fin 8 => semVal (cell c qk.1 qk.2) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => rstg m ρ c
    | ⟨2, _⟩ => gstg m ρ c
    | ⟨3, _⟩ => oFin m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- A staging buffer whole, at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns stg; simp only [Memref.view_whole, View.read_whole, View.set_whole]

theorem before_x (c : Dev nD) (d) : (dats m ρ 0 c).before (0 : Fin 4) t0_0 d = xstg m ρ c := by
  unfold Dat.before; rw [if_pos (fetch0_0 t0_0)]; rfl
theorem before_r (c : Dev nD) (d) : (dats m ρ 0 c).before (1 : Fin 4) t0_0 d = rstg m ρ c := by
  unfold Dat.before; rw [if_pos (fetch0_1 t0_0)]; rfl
theorem before_g (c : Dev nD) (d) : (dats m ρ 0 c).before (2 : Fin 4) t0_0 d = gstg m ρ c := by
  unfold Dat.before; rw [if_pos (fetch0_2 t0_0)]; rfl

def bodyPre (c : Dev nD) : sProp 𝕄 :=
  iprop(Φ₀ m ρ c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))
def bodyPost (c : Dev nD) : sProp 𝕄 :=
  iprop(Φ₁ c ∗ (dats m ρ 0 c).owesAt () t0_0.succ ∗ stg c cc0_stg0_0 (xstg m ρ c) ∗ stg c cc0_stg1_0 (rstg m ρ c)
    ∗ stg c cc0_stg2_0 (gstg m ρ c) ∗ stg c cc0_stg3_0 (oFin m ρ c))

theorem sound (c : Dev nD) : bodyPre m ρ c ⊢ wp frame (wpE (defs₀ (F := F)) 𝒱₀ (c : Thread nD τ) none) Set.univ (body (F := F)) (fun _ => bodyPost m ρ c) := by
  unfold bodyPre Φ₀ start G' scratch stg Dat.owesAt Pipeline.owesWithin
  simp only [before_x, before_r, before_g]
  iintro ⟨⟨⟨⟨%K, HR, Hpo, Htk⟩, Hcr, Hlev⟩, Hs, Hn⟩, ⟨%W, %hW, HO⟩, ⟨%d0, %f0, %h0, H0⟩, ⟨%d1, %f1, %h1, H1⟩, ⟨%d2, %f2, %h2, H2⟩, ⟨%d3, %f3, %h3, H3⟩⟩
  subst h0 h1 h2
  ihave Hw := (body_wp m ρ K c) $$ [HR Hpo Htk Hcr Hlev Hs Hn HO H0 H1 H2 H3]
  · unfold pre ops
    isplitl [HR]; · iexact HR
    isplitl [Hlev]; · iexact Hlev
    isplitl [Hpo]; · iexact Hpo
    isplitl [Htk]; · iexact Htk
    isplitl [Hcr]; · iexact Hcr
    isplitl [Hs]; · iexact Hs
    isplitl [Hn]; · iexact Hn
    isplitl [H0 H1 H2]
    · isplitl [H0]; · iexact H0
      isplitl [H1]; · iexact H1
      iexact H2
    isplitl [H3]; · iexists f3; iexact H3
    iexists W; iexact HO
  iapply (wp_wand _ _ _) $$ Hw
  unfold post bodyPost Φ₁ scratch stg ops Dat.owesAt Pipeline.owesWithin
  iintro %a ⟨Hs, Hn, ⟨HzB, Hz⟩, ⟨H0, H1, H2⟩, H3, ⟨%W, HO⟩⟩
  isplitl [Hs Hn HzB Hz]
  · isplitl [Hs Hn]
    · isplitl [Hs]; · iexact Hs
      iexact Hn
    isplitl [HzB]; · iexact HzB
    iexact Hz
  isplitl [HO]
  · iexists W
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  iexists _; isplitr; · (ipureintro; rfl)
  iexact H3

set_option maxRecDepth 8000 in
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ (c : Thread nD τ) none) Set.univ
    (cc0_body xM (Memref.isWhole_whole _) rM (Memref.isWhole_whole _) gM (Memref.isWhole_whole _) oM (Memref.isWhole_whole _)
      sM (Memref.isWhole_whole _) nM (Memref.isWhole_whole _) cc0_scratch2 cc0_scratch3 cc0_scratch4 cc0_scratch5) (fun _ => bodyPost m ρ c)
  rw [body_eq]
  exact sound m ρ c

/-! ## The launch's conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scratch
  iintro ⟨Hr, HzB, Hz⟩
  isplitl [HzB]; · iexact HzB
  isplitl [Hz]; · iexact Hz
  iexact Hr

/-- The staging copies' semaphores lie below all that is owed. -/
theorem stage_low (w : Fin cfg0.W) (s : Fin (cfg0.win w).nbuf) (c : Dev nD) : lv ((c : Thread nD τ), .dma ((cfg0.win w).sem s)) () ≤ 0 := by
  fin_cases w <;> fin_cases s <;> exact le_of_eq rfl

theorem waits (c : Dev nD) : (levAts L lv : sProp 𝕄) ⊢ Pipeline.cellsWaits cfgs (dats m ρ) () 0 c :=
  Pipeline.cellsWaits_intro cfgs (dats m ρ) () 0 c fun w s t =>
    mayWait c _ _ 0 (stage_low w s c) (by
      rcases t with ⟨_ | _, ht⟩
      · exact above_O₀ c
      · exact above_zero)

/-! ## The run -/

/-- What the array of window `w` holds on device `c` after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, every weakly fair execution of the 32 kernels ends, with each device's result
    array at the assembled contents, its arguments unchanged and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_x (c : Dev nD) : finalA m ρ c (0 : Fin 4) = (s₀ m ρ).mem (win0_0.arr.view.loc (c : Thread nD τ)) := (dats m ρ 0 c).arrAt_in (0 : Fin 4) rfl _
theorem finalA_r (c : Dev nD) : finalA m ρ c (1 : Fin 4) = (s₀ m ρ).mem (win0_1.arr.view.loc (c : Thread nD τ)) := (dats m ρ 0 c).arrAt_in (1 : Fin 4) rfl _
theorem finalA_g (c : Dev nD) : finalA m ρ c (2 : Fin 4) = (s₀ m ρ).mem (win0_2.arr.view.loc (c : Thread nD τ)) := (dats m ρ 0 c).arrAt_in (2 : Fin 4) rfl _
/-- The result array's one block — the whole array — is what the body left. -/
theorem finalA_o (c : Dev nD) : (win0_3.blk (0 : Fin 1)).view.read (Elt F) (finalA m ρ c (3 : Fin 4)) = oFin m ρ c := by
  unfold finalA
  rw [show cfg0.N = (t0_0 : Fin cfg0.N).val + 1 from rfl, (dats m ρ 0 c).arrAt_succ (3 : Fin 4) t0_0, if_pos (flush0_3 t0_0)]
  exact View.read_write_univ _ _

end Cert.KernelIdeal.Exchange

end
-- ==== Proof.KernelIdeal.Rows.lean ====
/-
The rows that one piece computes, over the extended reals: the sum of the two partial rows and the residual row, times
the reciprocal root of its mean square plus a constant, times gamma; and where in the arrays a piece's rows lie.
-/
module

public import proofs.«01_k».proof.Proof.KernelIdeal.Run
public import Idealize.ShloMosaic.Lib.Pointwise

@[expose] public section

noncomputable section

namespace Cert.KernelIdeal.Exchange

open Cert.KernelIdeal Cert.KernelIdeal.Gen
open Idealize.ShloMosaic
open Idealize.ShloMosaic.TcCoe

variable (m : (ℓ : Loc nD τ sig) → Buf (Elt Ideal) ℓ) (ρ : Dev nD → PrngReg)

/-- The normalisation of one row: entry `b` of the row `y`, scaled by `g`. -/
def normed (y : Fin 1024 → EReal) (g : EReal) (b : Fin 1024) : EReal :=
  y b * Ideal.rsqrt (Ideal.div (∑ l : Fin 1024, y l * y l) (Ideal.ofBits .f32 0x44800000#32) + Ideal.ofBits .f32 0x358637BD#32) * g

set_option maxRecDepth 16384 in
theorem pay_apply (x : Vec Ideal S1x64x1024 .bf16) (n r : Vec Ideal S64x1024 .bf16) (g : Vec Ideal S1024 .bf16) (a : Fin 64) (b : Fin 1024) :
    k0_pay10 x n r g (ix2 a b) = normed (fun l => x (ix3 0 a l) + n (ix2 a l) + r (ix2 a l)) (g (ix1 b)) b := by
  unfold normed
  pointwise [k0_pay10]

theorem row_x (x : Vec Ideal S1x64x1024 .bf16) (a : Fin 64) (b : Fin 1024) : k0_pay1 x (ix2 a b) = x (ix3 0 a b) := by
  pointwise [k0_pay1]

/-! ## The rows in the arrays -/

/-- The operands are staged whole. -/
theorem xstg_eq (c : Dev nD) : xstg m ρ c = m ((c : Thread nD τ).loc main_arg0) :=
  Memref.read_access_unit_zero (Elt Ideal) main_arg0 (funext fun a => by fin_cases a <;> decide) (fun a => by fin_cases a <;> decide) _
theorem rstg_eq (c : Dev nD) : rstg m ρ c = m ((c : Thread nD τ).loc main_arg1) :=
  Memref.read_access_unit_zero (Elt Ideal) main_arg1 (funext fun a => by fin_cases a <;> decide) (fun a => by fin_cases a <;> decide) _
theorem gstg_eq (c : Dev nD) : gstg m ρ c = m ((c : Thread nD τ).loc main_arg2) :=
  Memref.read_access_unit_zero (Elt Ideal) main_arg2 (funext fun a => by fin_cases a <;> decide) (fun a => by fin_cases a <;> decide) _

/-- Row `i` of the arrays is row `i % 64` of piece `i / 64 % 8` of half `i / 512`. -/
abbrev halfOf (i : Fin 1024) : Fin 2 := ⟨i.val / 512 % 2, Nat.mod_lt _ (by decide)⟩
abbrev pieceOf (i : Fin 1024) : Fin 8 := ⟨i.val / 64 % 8, Nat.mod_lt _ (by decide)⟩
abbrev rowOf (i : Fin 1024) : Fin 64 := ⟨i.val % 64, Nat.mod_lt _ (by decide)⟩

theorem emb_row (i b : Fin 1024) : (pRect (halfOf i) (pieceOf i)).emb (ix2 (rowOf i) b) = ix2 i b := by
  have hi := i.isLt
  funext a
  match a with
  | 0 =>
    refine Fin.ext ?_
    rw [Rect.emb_apply]
    show 512 * (i.val / 512 % 2) + 64 * (i.val / 64 % 8) + 1 * (i.val % 64) = i.val
    omega
  | 1 =>
    refine Fin.ext ?_
    rw [Rect.emb_apply]
    show 0 + 1 * b.val = b.val
    omega
theorem emb_row3 (i b : Fin 1024) : (pRect3 (halfOf i) (pieceOf i)).emb (ix3 0 (rowOf i) b) = ix3 0 i b := by
  have hi := i.isLt
  funext a
  match a with
  | 0 => exact Fin.ext (by rw [Rect.emb_apply]; rfl)
  | 1 =>
    refine Fin.ext ?_
    rw [Rect.emb_apply]
    show 512 * (i.val / 512 % 2) + 64 * (i.val / 64 % 8) + 1 * (i.val % 64) = i.val
    omega
  | 2 =>
    refine Fin.ext ?_
    rw [Rect.emb_apply]
    show 0 + 1 * b.val = b.val
    omega

theorem xRow_apply (c : Dev nD) (i b : Fin 1024) :
    xRow m ρ c (halfOf i) (pieceOf i) (ix3 0 (rowOf i) b) = (m ((c : Thread nD τ).loc main_arg0) : Vec Ideal S1x1024x1024 .bf16) (ix3 0 i b) := by
  have h : xRow m ρ c (halfOf i) (pieceOf i) (ix3 0 (rowOf i) b) = (xstg m ρ c : Vec Ideal S1x1024x1024 .bf16) ((pRect3 (halfOf i) (pieceOf i)).emb (ix3 0 (rowOf i) b)) := rfl
  rw [h, emb_row3, xstg_eq]
theorem rRow_apply (c : Dev nD) (i b : Fin 1024) :
    rRow m ρ c (halfOf i) (pieceOf i) (ix2 (rowOf i) b) = (m ((c : Thread nD τ).loc main_arg1) : Vec Ideal S1024x1024 .bf16) (ix2 i b) := by
  have h : rRow m ρ c (halfOf i) (pieceOf i) (ix2 (rowOf i) b) = (rstg m ρ c : Vec Ideal S1024x1024 .bf16) ((pRect (halfOf i) (pieceOf i)).emb (ix2 (rowOf i) b)) := rfl
  rw [h, emb_row, rstg_eq]
theorem gVec_apply (c : Dev nD) (b : Fin 1024) : gVec m ρ c (ix1 b) = (m ((c : Thread nD τ).loc main_arg2) : Vec Ideal S1024 .bf16) (ix1 b) := by
  unfold gVec
  rw [show gM.view.readAt (Elt Ideal) (Rect.unit (s := S1024) ![0] S1024.size inb_S1024_S1024_0).toLoadRect (gstg m ρ c) = gstg m ρ c from
      Memref.readAt_unit_zero (Elt Ideal) cc0_stg2_0 (funext fun a => by fin_cases a; rfl) _ _, gstg_eq]

/-- Device `c`'s arguments. -/
abbrev partOf (c : Dev nD) (i l : Fin 1024) : EReal := (m ((c : Thread nD τ).loc main_arg0) : Vec Ideal S1x1024x1024 .bf16) (ix3 0 i l)
abbrev residOf (c : Dev nD) (i l : Fin 1024) : EReal := (m ((c : Thread nD τ).loc main_arg1) : Vec Ideal S1024x1024 .bf16) (ix2 i l)
abbrev gammaOf (c : Dev nD) (l : Fin 1024) : EReal := (m ((c : Thread nD τ).loc main_arg2) : Vec Ideal S1024 .bf16) (ix1 l)

/-- Entry `(i, b)` of what device `c` ends with. -/
theorem oFin_apply (c : Dev nD) (i b : Fin 1024) :
    (oFin m ρ c : Vec Ideal S1024x1024 .f32) (ix2 i b)
      = normed (fun l => partOf m c i l + partOf m (srcDev c (halfOf i)) i l + residOf m c i l) (gammaOf m c b) b := by
  unfold oFin
  rw [← emb_row i b, assemble_emb]
  unfold oRow nRow
  rw [pay_apply, gVec_apply]
  congr 1
  funext l
  rw [row_x, xRow_apply, xRow_apply, rRow_apply]

/-- The result array after the run. -/
theorem finalA_eq (c : Dev nD) : finalA m ρ c (3 : Fin 4) = oFin m ρ c := by
  rw [← finalA_o]
  exact (Memref.read_access_unit_zero (Elt Ideal) main_v1 (funext fun a => by fin_cases a <;> decide) (fun a => by fin_cases a <;> decide) _).symm

end Cert.KernelIdeal.Exchange

end
-- ==== Proof.Reference.lean ====
/-
What the reference computes, entry by entry over the extended reals, and that dividing by the root of a positive value is
multiplying by its reciprocal root.
-/
module

public import proofs.«01_k».proof.Proof.Gen.ReferenceIdeal.Run
public import Idealize.ShloMosaic.Lib.Pointwise

@[expose] public section

noncomputable section

namespace Cert.ReferenceIdeal.Result

open Cert.ReferenceIdeal Cert.ReferenceIdeal.Gen
open Idealize.ShloMosaic

/-- The reference's result, of its three arguments. -/
def refOut (p : FVec Ideal S2x1024x1024 .bf16) (r : FVec Ideal S1024x1024 .bf16) (g : FVec Ideal S1024 .bf16) : FVec Ideal S1024x1024 .f32 :=
  mulf (Host.divf (addf (Host.reduceAdd (extf .f32 p bitsLt_bf16_f32) (constant S_ .f32 0x00000000#32) reducesTo_S2x1024x1024_S1024x1024_d0 h_S_) (extf .f32 r bitsLt_bf16_f32)) (broadcastInDim S1024x1024 ![0, 1] bcast_S1024x1_S1024x1024_0_1 (Host.sqrt (addf (Host.divf (broadcastInDim S1024x1 ![0] bcast_S1024_S1024x1_0 (Host.reduceAdd (mulf (addf (Host.reduceAdd (extf .f32 p bitsLt_bf16_f32) (constant S_ .f32 0x00000000#32) reducesTo_S2x1024x1024_S1024x1024_d0 h_S_) (extf .f32 r bitsLt_bf16_f32)) (addf (Host.reduceAdd (extf .f32 p bitsLt_bf16_f32) (constant S_ .f32 0x00000000#32) reducesTo_S2x1024x1024_S1024x1024_d0 h_S_) (extf .f32 r bitsLt_bf16_f32))) (constant S_ .f32 0x00000000#32) reducesTo_S1024x1024_S1024_d1 h_S_)) (broadcastInDim S1024x1 ![] bcast_S_S1024x1 (constant S_ .f32 0x44800000#32))) (broadcastInDim S1024x1 ![] bcast_S_S1024x1 (constant S_ .f32 0x358637BD#32)))))) (broadcastInDim S1024x1024 ![0, 1] bcast_S1x1024_S1024x1024_0_1 (broadcastInDim S1x1024 ![1] bcast_S1024_S1x1024_1 (extf .f32 g bitsLt_bf16_f32)))

/-- A row of the reference before it is normalised. -/
def refRow (p : FVec Ideal S2x1024x1024 .bf16) (r : FVec Ideal S1024x1024 .bf16) (i l : Fin 1024) : EReal :=
  p (ix3 0 i l) + p (ix3 1 i l) + r (ix2 i l)

set_option maxRecDepth 16384 in
theorem refOut_apply (p : FVec Ideal S2x1024x1024 .bf16) (r : FVec Ideal S1024x1024 .bf16) (g : FVec Ideal S1024 .bf16) (i b : Fin 1024) :
    refOut p r g (ix2 i b)
      = Ideal.div (refRow p r i b) (Ideal.sqrt (Ideal.div (∑ l : Fin 1024, refRow p r i l * refRow p r i l) (Ideal.ofBits .f32 0x44800000#32) + Ideal.ofBits .f32 0x358637BD#32))
          * g (ix1 b) := by
  unfold refRow
  pointwise [refOut]
  simp only [Fin.sum_univ_two]

/-! ## The root -/

theorem n_bits : Ideal.ofBits .f32 0x44800000#32 = ((1024 : ℝ) : EReal) := by
  simp [Ideal.ofBits, Ideal.ieee, -EReal.coe_mul]; norm_num
theorem eps_bits : ∃ e : ℝ, 0 < e ∧ Ideal.ofBits .f32 0x358637BD#32 = (e : EReal) := by
  refine ⟨8796093 * (2 : ℝ) ^ (-43 : ℤ), by positivity, ?_⟩
  simp [Ideal.ofBits, Ideal.ieee, -EReal.coe_mul]

/-- Dividing by the root of `v > 0` is multiplying by its reciprocal root. -/
theorem div_sqrt (y v : EReal) (h : 0 < v) : Ideal.div y (Ideal.sqrt v) = y * Ideal.rsqrt v := by
  induction v using EReal.rec with
  | bot => exact absurd h (not_lt_bot)
  | top => rw [Ideal.sqrt_top, Ideal.rsqrt_top, Ideal.div, if_neg (by simp), EReal.inv_top]
  | coe r =>
    have hr : 0 < r := by exact_mod_cast h
    rw [Ideal.sqrt_coe, Ideal.rsqrt_coe, if_neg hr.not_gt, if_neg hr.not_gt, if_neg hr.ne', Ideal.div_coe (Real.sqrt_pos.mpr hr).ne', one_div]

theorem sq_nonneg' (x : EReal) : 0 ≤ x * x := by
  rcases le_total 0 x with h | h
  · exact mul_nonneg h h
  · rw [← neg_mul_neg]
    exact mul_nonneg (EReal.neg_nonneg.mpr h) (EReal.neg_nonneg.mpr h)

/-- A mean square plus the constant is positive. -/
theorem mean_pos (y : Fin 1024 → EReal) : 0 < Ideal.div (∑ l : Fin 1024, y l * y l) (Ideal.ofBits .f32 0x44800000#32) + Ideal.ofBits .f32 0x358637BD#32 := by
  obtain ⟨e, he, hb⟩ := eps_bits
  rw [n_bits, hb, Ideal.div_coe (by norm_num)]
  have h1 : 0 ≤ (∑ l : Fin 1024, y l * y l) * ((1 / 1024 : ℝ) : EReal) :=
    mul_nonneg (Finset.sum_nonneg fun l _ => sq_nonneg' (y l)) (by exact_mod_cast (by norm_num : (0 : ℝ) ≤ 1 / 1024))
  have h2 : (0 : EReal) < (e : EReal) := by exact_mod_cast he
  exact lt_of_lt_of_le h2 (le_add_of_nonneg_left h1)

end Cert.ReferenceIdeal.Result

end
-- ==== Proof.Equation.lean ====
/-
What each device ends with is the reference's result of the whole arrays: a device and its peer along x hold the two
partial sums, whichever path the peer's rows came by.
-/
module

public import proofs.«01_k».proof.Proof.KernelIdeal.Rows
public import proofs.«01_k».proof.Proof.Reference
public import Idealize.ShloMosaic.Lib.Layout

@[expose] public section

noncomputable section

namespace Cert.Proof

open Idealize.ShloMosaic Idealize.ShloMosaic.TcCoe
open Cert.KernelIdeal Cert.KernelIdeal.Exchange Cert.ReferenceIdeal.Result

/-- The place of device `c` along x. -/
abbrev placeX (c : Dev nD) : Fin 2 := ⟨c.val / 16 % 2, Nat.mod_lt _ (by decide)⟩

/-- The device whose rows reach `c` has the other place along x, in both halves. -/
theorem placeX_src (c : Dev nD) (h : Fin 2) : placeX (srcDev c h) = 1 - placeX c := by
  revert c h; decide +kernel

/-- Where the block of device `c` lies in the whole of `partial`. -/
theorem block_row (c : Dev nD) (v : FVec Ideal Cert.ReferenceIdeal.S2x1024x1024 .bf16) (i l : Fin 1024) :
    Layout.blockN ⟨3, ![1, 1024, 1024]⟩ ⟨3, ![2, 1024, 1024]⟩ (Layout.meshBlock [2, 4, 4] ![[0], [], []] c) v (h := by decide) (ix3 0 i l)
      = v (ix3 (placeX c) i l) := by
  rw [Layout.blockN_apply]
  refine congrArg v (funext fun b => Fin.ext ?_)
  rw [Layout.TilesN.idx_val]
  match b with
  | 0 =>
    show Layout.meshLin [2, 4, 4] c.val [0] * 1 + 0 = c.val / 16 % 2
    revert c; decide +kernel
  | 1 =>
    show 0 * 1024 + i.val = i.val
    omega
  | 2 =>
    show 0 * 1024 + l.val = l.val
    omega

/-- A sum of the two partial rows, taken from either place. -/
theorem two_places (f : Fin 2 → EReal) (q : Fin 2) : f q + f (1 - q) = f 0 + f 1 := by
  match q with
  | 0 => rfl
  | 1 => exact add_comm _ _

/-- Entry by entry, the normalised row is the reference's. -/
theorem normed_ref (p : FVec Ideal Cert.ReferenceIdeal.S2x1024x1024 .bf16) (r : FVec Ideal Cert.ReferenceIdeal.S1024x1024 .bf16)
    (g : FVec Ideal Cert.ReferenceIdeal.S1024 .bf16) (i b : Fin 1024) :
    normed (refRow p r i) (g (ix1 b)) b = refOut p r g (ix2 i b) := by
  rw [refOut_apply, div_sqrt _ _ (mean_pos (refRow p r i))]
  rfl

variable (m : (ℓ : Loc nD τ sig) → Buf (Elt Ideal) ℓ) (ρ : Dev nD → PrngReg)

theorem result_eq (p : FVec Ideal Cert.ReferenceIdeal.S2x1024x1024 .bf16) (r : FVec Ideal Cert.ReferenceIdeal.S1024x1024 .bf16)
    (g : FVec Ideal Cert.ReferenceIdeal.S1024 .bf16)
    (hp : ∀ c : Dev nD, m ((c : Thread nD τ).loc main_arg0)
      = Layout.blockN ⟨3, ![1, 1024, 1024]⟩ ⟨3, ![2, 1024, 1024]⟩ (Layout.meshBlock [2, 4, 4] ![[0], [], []] c) p)
    (hr : ∀ c : Dev nD, m ((c : Thread nD τ).loc main_arg1) = r) (hg : ∀ c : Dev nD, m ((c : Thread nD τ).loc main_arg2) = g) (c : Dev nD) :
    finalA m ρ c (3 : Fin 4) = refOut p r g := by
  rw [finalA_eq]
  have hpart (c : Dev nD) (i l : Fin 1024) : partOf m c i l = p (ix3 (placeX c) i l) := by
    unfold partOf; rw [hp c]; exact block_row c p i l
  refine funext fun j => ?_
  obtain ⟨i, b, rfl⟩ : ∃ (i b : Fin 1024), j = ix2 i b := ⟨j 0, j 1, eq_ix2 j⟩
  refine (oFin_apply m ρ c i b).trans (Eq.trans ?_ (normed_ref p r g i b))
  unfold gammaOf residOf
  rw [hr c, hg c]
  congr 1
  funext l
  unfold refRow
  rw [hpart, hpart, placeX_src]
  exact congrArg (· + r (ix2 i l)) (two_places (fun q => p (ix3 q i l)) (placeX c))

end Cert.Proof

end
-- ==== Proof.lean ====
/-
The claims: the three programs run, leave their arguments unchanged and every counter at zero; the idealized kernel is the
kernel's own text; and over the extended reals each of the 32 devices ends with the reference's result of the whole arrays.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.Equation
public import Idealize.ShloMosaic.Lib.Quiescent

@[expose] public section

noncomputable section

namespace Cert.Proof

open Idealize.ShloMosaic Idealize.SL.Sem

theorem frame_kernel : Cert.quiescent_Kernel (hKernel := Cert.Kernel.Gen.facts) := by
  intro m ρ _
  exact (θ_run _ _ _).mono (fun _ h => ⟨fun c => ⟨(h.1 c (0 : Fin 4)).trans (Cert.Kernel.Exchange.finalA_x m ρ c),
      (h.1 c (1 : Fin 4)).trans (Cert.Kernel.Exchange.finalA_r m ρ c), (h.1 c (2 : Fin 4)).trans (Cert.Kernel.Exchange.finalA_g m ρ c)⟩, h.2⟩)
    (Cert.Kernel.Exchange.run_main (F := Bits) m ρ)

theorem frame_ideal : Cert.quiescent_KernelIdeal (hKernelIdeal := Cert.KernelIdeal.Gen.facts) := by
  intro m ρ _
  exact (θ_run _ _ _).mono (fun _ h => ⟨fun c => ⟨(h.1 c (0 : Fin 4)).trans (Cert.KernelIdeal.Exchange.finalA_x m ρ c),
      (h.1 c (1 : Fin 4)).trans (Cert.KernelIdeal.Exchange.finalA_r m ρ c), (h.1 c (2 : Fin 4)).trans (Cert.KernelIdeal.Exchange.finalA_g m ρ c)⟩, h.2⟩)
    (Cert.KernelIdeal.Exchange.run_main (F := Ideal) m ρ)

theorem frame_reference : Cert.quiescent_ReferenceIdeal (hReferenceIdeal := Cert.ReferenceIdeal.Gen.facts) := by
  intro m ρ _
  exact (θ_run _ _ _).mono (fun r h => ⟨fun c => (h c).2, Idealize.ShloMosaic.sem_eq_zero_of_no_sems (by decide) r.2⟩)
    (Cert.ReferenceIdeal.Value.run (F := Ideal) m ρ)

theorem value : Cert.algebraic_KernelIdeal_ReferenceIdeal (hKernelIdeal := Cert.KernelIdeal.Gen.facts) (hReferenceIdeal := Cert.ReferenceIdeal.Gen.facts) := by
  intro m ρ m' ρ' _ hag
  refine ⟨Cert.ReferenceIdeal.Result.refOut
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)), ?_, ?_⟩
  · exact (θ_run _ _ _).mono (fun _ h c =>
        ⟨(h.1 c (3 : Fin 4)).trans (result_eq m ρ _ _ _ (fun c => (hag c).1) (fun c => (hag c).2.1) (fun c => (hag c).2.2) c),
          (h.1 c (0 : Fin 4)).trans (Cert.KernelIdeal.Exchange.finalA_x m ρ c), (h.1 c (1 : Fin 4)).trans (Cert.KernelIdeal.Exchange.finalA_r m ρ c),
          (h.1 c (2 : Fin 4)).trans (Cert.KernelIdeal.Exchange.finalA_g m ρ c)⟩)
      (Cert.KernelIdeal.Exchange.run_main (F := Ideal) m ρ)
  · exact (θ_run _ _ _).mono (fun _ h => h 0) (Cert.ReferenceIdeal.Value.run (F := Ideal) m' ρ')

theorem claim : Cert.Claim :=
  ⟨Cert.Kernel.Gen.facts, Cert.KernelIdeal.Gen.facts, Cert.ReferenceIdeal.Gen.facts, frame_kernel, frame_ideal, frame_reference, trivial, value⟩

end Cert.Proof

end
